-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2, 2] ![[], [2]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2, 2] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S2048x2048 : Shape := ⟨2, ![2048, 2048]⟩
abbrev S2x512x2048 : Shape := ⟨3, ![2, 512, 2048]⟩
abbrev S8192x512 : Shape := ⟨2, ![8192, 512]⟩
abbrev S2x128x8192 : Shape := ⟨3, ![2, 128, 8192]⟩
abbrev S16x128x512 : Shape := ⟨3, ![16, 128, 512]⟩
abbrev S16x2x128x512 : Shape := ⟨4, ![16, 2, 128, 512]⟩
abbrev S2x128x2048 : Shape := ⟨3, ![2, 128, 2048]⟩
abbrev S2 : Shape := ⟨1, ![2]⟩
abbrev S16 : Shape := ⟨1, ![16]⟩
abbrev S16x2 : Shape := ⟨2, ![16, 2]⟩
abbrev S1 : Shape := ⟨1, ![1]⟩
abbrev S_ : Shape := ⟨0, ![]⟩
abbrev S1x128x8192 : Shape := ⟨3, ![1, 128, 8192]⟩
abbrev S128x8192 : Shape := ⟨2, ![128, 8192]⟩
abbrev S1x512x2048 : Shape := ⟨3, ![1, 512, 2048]⟩
abbrev S512x2048 : Shape := ⟨2, ![512, 2048]⟩
abbrev S2048x512 : Shape := ⟨2, ![2048, 512]⟩
abbrev S128x2048 : Shape := ⟨2, ![128, 2048]⟩
abbrev S128x512 : Shape := ⟨2, ![128, 512]⟩
abbrev S1x128x512 : Shape := ⟨3, ![1, 128, 512]⟩
abbrev S1x1 : Shape := ⟨2, ![1, 1]⟩
abbrev S1x1x128x512 : Shape := ⟨4, ![1, 1, 128, 512]⟩
abbrev S1x128x2048 : Shape := ⟨3, ![1, 128, 2048]⟩

abbrev nBuf : Space → Nat
  | .hbm => 3
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .local _ .vmem, ⟨0, _⟩ => ⟨S2x512x2048, .f32⟩
  | .local _ .vmem, ⟨1, _⟩ => ⟨S8192x512, .bf16⟩
  | .local _ .vmem, ⟨2, _⟩ => ⟨S2x128x8192, .f32⟩
  | .local _ .vmem, ⟨3, _⟩ => ⟨S16x128x512, .bf16⟩
  | .local _ .vmem, ⟨4, _⟩ => ⟨S16x128x512, .bf16⟩
  | .local _ .vmem, ⟨5, _⟩ => ⟨S16x128x512, .bf16⟩
  | .local _ .vmem, ⟨6, _⟩ => ⟨S16x2x128x512, .bf16⟩
  | .local _ .vmem, ⟨7, _⟩ => ⟨S16x2x128x512, .bf16⟩
  | .local _ .vmem, ⟨8, _⟩ => ⟨S2x128x2048, .f32⟩
  | _, _ => ⟨S2048x8192, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 166 → Bool
  | ⟨i, _⟩ => dmaSemScopedAt i

abbrev sig : RefSig :=
  (ofTc nBuf bufTy 2 166 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v19 : BitVec 32 := Scalar.muli v10 c512_i32
  let c0_i32_16 : BitVec 32 := 0#32
  ![v19.toNat, 0]
def k0_off2 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_17 : BitVec 32 := 512#32
  let v25 : BitVec 32 := Scalar.muli v10 c512_i32_17
  let c2048_i32 : BitVec 32 := 2048#32
  ![v25.toNat, 2048]
def k0_dev1 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v32 : BitVec 32 := Scalar.muli v2 c4_i32_23
  let v33 : BitVec 32 := Scalar.addi c0_i32_24 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v34 : BitVec 32 := Scalar.muli v5 c2_i32_25
  let v35 : BitVec 32 := Scalar.addi v33 v34
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_26 : BitVec 32 := 1#32
  let v36 : BitVec 32 := Scalar.muli v11 c1_i32_26
  let v37 : BitVec 32 := Scalar.addi v35 v36
  v37.toNat
def k0_dev2 (d0 : Dev nD) : Nat :=
  let c0_i32_29 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_28 : BitVec 32 := 4#32
  let v38 : BitVec 32 := Scalar.muli v12 c4_i32_28
  let v39 : BitVec 32 := Scalar.addi c0_i32_29 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v40 : BitVec 32 := Scalar.muli v5 c2_i32_30
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v42 : BitVec 32 := Scalar.muli v8 c1_i32_31
  let v43 : BitVec 32 := Scalar.addi v41 v42
  v43.toNat
def k0_dev3 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v44 : BitVec 32 := Scalar.muli v2 c4_i32_33
  let v45 : BitVec 32 := Scalar.addi c0_i32_34 v44
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_35 : BitVec 32 := 2#32
  let v46 : BitVec 32 := Scalar.muli v13 c2_i32_35
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v48 : BitVec 32 := Scalar.muli v8 c1_i32_36
  let v49 : BitVec 32 := Scalar.addi v47 v48
  v49.toNat
def k0_off3 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_61 : BitVec 32 := 512#32
  let v76 : BitVec 32 := Scalar.muli v10 c512_i32_61
  let c4096_i32 : BitVec 32 := 4096#32
  ![v76.toNat, 4096]
def k0_off4 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_75 : BitVec 32 := 512#32
  let v97 : BitVec 32 := Scalar.muli v10 c512_i32_75
  let c6144_i32 : BitVec 32 := 6144#32
  ![v97.toNat, 6144]
def k0_dev4 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v142 : BitVec 32 := Scalar.muli v2 c4_i32_110
  let v143 : BitVec 32 := Scalar.addi c0_i32_111 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v144 : BitVec 32 := Scalar.muli v5 c2_i32_112
  let v145 : BitVec 32 := Scalar.addi v143 v144
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_113 : BitVec 32 := 1#32
  let v146 : BitVec 32 := Scalar.muli v11 c1_i32_113
  let v147 : BitVec 32 := Scalar.addi v145 v146
  v147.toNat
def k0_dev5 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v175 : BitVec 32 := Scalar.muli v2 c4_i32_142
  let v176 : BitVec 32 := Scalar.addi c0_i32_143 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v177 : BitVec 32 := Scalar.muli v5 c2_i32_144
  let v178 : BitVec 32 := Scalar.addi v176 v177
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_145 : BitVec 32 := 1#32
  let v179 : BitVec 32 := Scalar.muli v11 c1_i32_145
  let v180 : BitVec 32 := Scalar.addi v178 v179
  v180.toNat
def k0_dev6 (d0 : Dev nD) : Nat :=
  let c0_i32_174 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_173 : BitVec 32 := 4#32
  let v208 : BitVec 32 := Scalar.muli v2 c4_i32_173
  let v209 : BitVec 32 := Scalar.addi c0_i32_174 v208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v210 : BitVec 32 := Scalar.muli v5 c2_i32_175
  let v211 : BitVec 32 := Scalar.addi v209 v210
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_176 : BitVec 32 := 1#32
  let v212 : BitVec 32 := Scalar.muli v11 c1_i32_176
  let v213 : BitVec 32 := Scalar.addi v211 v212
  v213.toNat
def k0_dev7 (d0 : Dev nD) : Nat :=
  let c0_i32_219 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_218 : BitVec 32 := 4#32
  let v248 : BitVec 32 := Scalar.muli v12 c4_i32_218
  let v249 : BitVec 32 := Scalar.addi c0_i32_219 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_220 : BitVec 32 := 2#32
  let v250 : BitVec 32 := Scalar.muli v5 c2_i32_220
  let v251 : BitVec 32 := Scalar.addi v249 v250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v252 : BitVec 32 := Scalar.muli v8 c1_i32_221
  let v253 : BitVec 32 := Scalar.addi v251 v252
  v253.toNat
def k0_dev8 (d0 : Dev nD) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_250 : BitVec 32 := 4#32
  let v281 : BitVec 32 := Scalar.muli v2 c4_i32_250
  let v282 : BitVec 32 := Scalar.addi c0_i32_251 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v283 : BitVec 32 := Scalar.muli v5 c2_i32_252
  let v284 : BitVec 32 := Scalar.addi v282 v283
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_253 : BitVec 32 := 1#32
  let v285 : BitVec 32 := Scalar.muli v11 c1_i32_253
  let v286 : BitVec 32 := Scalar.addi v284 v285
  v286.toNat
def k0_dev9 (d0 : Dev nD) : Nat :=
  let c0_i32_296 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_295 : BitVec 32 := 4#32
  let v321 : BitVec 32 := Scalar.muli v2 c4_i32_295
  let v322 : BitVec 32 := Scalar.addi c0_i32_296 v321
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_297 : BitVec 32 := 2#32
  let v323 : BitVec 32 := Scalar.muli v13 c2_i32_297
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_298 : BitVec 32 := 1#32
  let v325 : BitVec 32 := Scalar.muli v8 c1_i32_298
  let v326 : BitVec 32 := Scalar.addi v324 v325
  v326.toNat
def k0_dev10 (d0 : Dev nD) : Nat :=
  let c0_i32_327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_326 : BitVec 32 := 4#32
  let v354 : BitVec 32 := Scalar.muli v2 c4_i32_326
  let v355 : BitVec 32 := Scalar.addi c0_i32_327 v354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_328 : BitVec 32 := 2#32
  let v356 : BitVec 32 := Scalar.muli v5 c2_i32_328
  let v357 : BitVec 32 := Scalar.addi v355 v356
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_329 : BitVec 32 := 1#32
  let v358 : BitVec 32 := Scalar.muli v11 c1_i32_329
  let v359 : BitVec 32 := Scalar.addi v357 v358
  v359.toNat
def k0_dev11 (d0 : Dev nD) : Nat :=
  let c0_i32_372 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_371 : BitVec 32 := 4#32
  let v394 : BitVec 32 := Scalar.muli v12 c4_i32_371
  let v395 : BitVec 32 := Scalar.addi c0_i32_372 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v396 : BitVec 32 := Scalar.muli v5 c2_i32_373
  let v397 : BitVec 32 := Scalar.addi v395 v396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_374 : BitVec 32 := 1#32
  let v398 : BitVec 32 := Scalar.muli v8 c1_i32_374
  let v399 : BitVec 32 := Scalar.addi v397 v398
  v399.toNat
def k0_dev12 (d0 : Dev nD) : Nat :=
  let c0_i32_414 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_413 : BitVec 32 := 4#32
  let v426 : BitVec 32 := Scalar.muli v2 c4_i32_413
  let v427 : BitVec 32 := Scalar.addi c0_i32_414 v426
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_415 : BitVec 32 := 2#32
  let v428 : BitVec 32 := Scalar.muli v13 c2_i32_415
  let v429 : BitVec 32 := Scalar.addi v427 v428
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_416 : BitVec 32 := 1#32
  let v430 : BitVec 32 := Scalar.muli v8 c1_i32_416
  let v431 : BitVec 32 := Scalar.addi v429 v430
  v431.toNat
def k0_dev13 (d0 : Dev nD) : Nat :=
  let c0_i32_430 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_429 : BitVec 32 := 4#32
  let v440 : BitVec 32 := Scalar.muli v2 c4_i32_429
  let v441 : BitVec 32 := Scalar.addi c0_i32_430 v440
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_431 : BitVec 32 := 2#32
  let v442 : BitVec 32 := Scalar.muli v13 c2_i32_431
  let v443 : BitVec 32 := Scalar.addi v441 v442
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_432 : BitVec 32 := 1#32
  let v444 : BitVec 32 := Scalar.muli v8 c1_i32_432
  let v445 : BitVec 32 := Scalar.addi v443 v444
  v445.toNat
def k0_dev14 (d0 : Dev nD) : Nat :=
  let c0_i32_460 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_459 : BitVec 32 := 4#32
  let v473 : BitVec 32 := Scalar.muli v2 c4_i32_459
  let v474 : BitVec 32 := Scalar.addi c0_i32_460 v473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_461 : BitVec 32 := 2#32
  let v475 : BitVec 32 := Scalar.muli v5 c2_i32_461
  let v476 : BitVec 32 := Scalar.addi v474 v475
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_462 : BitVec 32 := 1#32
  let v477 : BitVec 32 := Scalar.muli v11 c1_i32_462
  let v478 : BitVec 32 := Scalar.addi v476 v477
  v478.toNat
def k0_dev15 (d0 : Dev nD) : Nat :=
  let c0_i32_505 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_504 : BitVec 32 := 4#32
  let v513 : BitVec 32 := Scalar.muli v2 c4_i32_504
  let v514 : BitVec 32 := Scalar.addi c0_i32_505 v513
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_506 : BitVec 32 := 2#32
  let v515 : BitVec 32 := Scalar.muli v13 c2_i32_506
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_507 : BitVec 32 := 1#32
  let v517 : BitVec 32 := Scalar.muli v8 c1_i32_507
  let v518 : BitVec 32 := Scalar.addi v516 v517
  v518.toNat
def k0_dev16 (d0 : Dev nD) : Nat :=
  let c0_i32_547 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_546 : BitVec 32 := 4#32
  let v545 : BitVec 32 := Scalar.muli v12 c4_i32_546
  let v546 : BitVec 32 := Scalar.addi c0_i32_547 v545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_548 : BitVec 32 := 2#32
  let v547 : BitVec 32 := Scalar.muli v5 c2_i32_548
  let v548 : BitVec 32 := Scalar.addi v546 v547
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_549 : BitVec 32 := 1#32
  let v549 : BitVec 32 := Scalar.muli v8 c1_i32_549
  let v550 : BitVec 32 := Scalar.addi v548 v549
  v550.toNat
def k0_dev17 (d0 : Dev nD) : Nat :=
  let c0_i32_563 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_562 : BitVec 32 := 4#32
  let v559 : BitVec 32 := Scalar.muli v12 c4_i32_562
  let v560 : BitVec 32 := Scalar.addi c0_i32_563 v559
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_564 : BitVec 32 := 2#32
  let v561 : BitVec 32 := Scalar.muli v5 c2_i32_564
  let v562 : BitVec 32 := Scalar.addi v560 v561
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_565 : BitVec 32 := 1#32
  let v563 : BitVec 32 := Scalar.muli v8 c1_i32_565
  let v564 : BitVec 32 := Scalar.addi v562 v563
  v564.toNat
def k0_dev18 (d0 : Dev nD) : Nat :=
  let c0_i32_593 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_592 : BitVec 32 := 4#32
  let v592 : BitVec 32 := Scalar.muli v2 c4_i32_592
  let v593 : BitVec 32 := Scalar.addi c0_i32_593 v592
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_594 : BitVec 32 := 2#32
  let v594 : BitVec 32 := Scalar.muli v5 c2_i32_594
  let v595 : BitVec 32 := Scalar.addi v593 v594
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_595 : BitVec 32 := 1#32
  let v596 : BitVec 32 := Scalar.muli v11 c1_i32_595
  let v597 : BitVec 32 := Scalar.addi v595 v596
  v597.toNat
def k0_dev19 (d0 : Dev nD) : Nat :=
  let c0_i32_638 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_637 : BitVec 32 := 4#32
  let v632 : BitVec 32 := Scalar.muli v12 c4_i32_637
  let v633 : BitVec 32 := Scalar.addi c0_i32_638 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_639 : BitVec 32 := 2#32
  let v634 : BitVec 32 := Scalar.muli v5 c2_i32_639
  let v635 : BitVec 32 := Scalar.addi v633 v634
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_640 : BitVec 32 := 1#32
  let v636 : BitVec 32 := Scalar.muli v8 c1_i32_640
  let v637 : BitVec 32 := Scalar.addi v635 v636
  v637.toNat
def k0_dev20 (d0 : Dev nD) : Nat :=
  let c0_i32_680 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_679 : BitVec 32 := 4#32
  let v664 : BitVec 32 := Scalar.muli v2 c4_i32_679
  let v665 : BitVec 32 := Scalar.addi c0_i32_680 v664
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_681 : BitVec 32 := 2#32
  let v666 : BitVec 32 := Scalar.muli v13 c2_i32_681
  let v667 : BitVec 32 := Scalar.addi v665 v666
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_682 : BitVec 32 := 1#32
  let v668 : BitVec 32 := Scalar.muli v8 c1_i32_682
  let v669 : BitVec 32 := Scalar.addi v667 v668
  v669.toNat
def k0_dev21 (d0 : Dev nD) : Nat :=
  let c0_i32_696 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_695 : BitVec 32 := 4#32
  let v678 : BitVec 32 := Scalar.muli v2 c4_i32_695
  let v679 : BitVec 32 := Scalar.addi c0_i32_696 v678
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_697 : BitVec 32 := 2#32
  let v680 : BitVec 32 := Scalar.muli v13 c2_i32_697
  let v681 : BitVec 32 := Scalar.addi v679 v680
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_698 : BitVec 32 := 1#32
  let v682 : BitVec 32 := Scalar.muli v8 c1_i32_698
  let v683 : BitVec 32 := Scalar.addi v681 v682
  v683.toNat
def k0_dev22 (d0 : Dev nD) : Nat :=
  let c0_i32_811 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_810 : BitVec 32 := 4#32
  let v772 : BitVec 32 := Scalar.muli v2 c4_i32_810
  let v773 : BitVec 32 := Scalar.addi c0_i32_811 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_812 : BitVec 32 := 2#32
  let v774 : BitVec 32 := Scalar.muli v5 c2_i32_812
  let v775 : BitVec 32 := Scalar.addi v773 v774
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_813 : BitVec 32 := 1#32
  let v776 : BitVec 32 := Scalar.muli v11 c1_i32_813
  let v777 : BitVec 32 := Scalar.addi v775 v776
  v777.toNat
def k0_dev23 (d0 : Dev nD) : Nat :=
  let c0_i32_856 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_855 : BitVec 32 := 4#32
  let v812 : BitVec 32 := Scalar.muli v2 c4_i32_855
  let v813 : BitVec 32 := Scalar.addi c0_i32_856 v812
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_857 : BitVec 32 := 2#32
  let v814 : BitVec 32 := Scalar.muli v13 c2_i32_857
  let v815 : BitVec 32 := Scalar.addi v813 v814
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_858 : BitVec 32 := 1#32
  let v816 : BitVec 32 := Scalar.muli v8 c1_i32_858
  let v817 : BitVec 32 := Scalar.addi v815 v816
  v817.toNat
def k0_dev24 (d0 : Dev nD) : Nat :=
  let c0_i32_898 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_897 : BitVec 32 := 4#32
  let v844 : BitVec 32 := Scalar.muli v12 c4_i32_897
  let v845 : BitVec 32 := Scalar.addi c0_i32_898 v844
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_899 : BitVec 32 := 2#32
  let v846 : BitVec 32 := Scalar.muli v5 c2_i32_899
  let v847 : BitVec 32 := Scalar.addi v845 v846
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_900 : BitVec 32 := 1#32
  let v848 : BitVec 32 := Scalar.muli v8 c1_i32_900
  let v849 : BitVec 32 := Scalar.addi v847 v848
  v849.toNat
def k0_dev25 (d0 : Dev nD) : Nat :=
  let c0_i32_914 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_913 : BitVec 32 := 4#32
  let v858 : BitVec 32 := Scalar.muli v12 c4_i32_913
  let v859 : BitVec 32 := Scalar.addi c0_i32_914 v858
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_915 : BitVec 32 := 2#32
  let v860 : BitVec 32 := Scalar.muli v5 c2_i32_915
  let v861 : BitVec 32 := Scalar.addi v859 v860
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_916 : BitVec 32 := 1#32
  let v862 : BitVec 32 := Scalar.muli v8 c1_i32_916
  let v863 : BitVec 32 := Scalar.addi v861 v862
  v863.toNat
def k0_dev26 (d0 : Dev nD) : Nat :=
  let c0_i32_1029 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1028 : BitVec 32 := 4#32
  let v952 : BitVec 32 := Scalar.muli v2 c4_i32_1028
  let v953 : BitVec 32 := Scalar.addi c0_i32_1029 v952
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1030 : BitVec 32 := 2#32
  let v954 : BitVec 32 := Scalar.muli v5 c2_i32_1030
  let v955 : BitVec 32 := Scalar.addi v953 v954
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_1031 : BitVec 32 := 1#32
  let v956 : BitVec 32 := Scalar.muli v11 c1_i32_1031
  let v957 : BitVec 32 := Scalar.addi v955 v956
  v957.toNat
def k0_dev27 (d0 : Dev nD) : Nat :=
  let c0_i32_1074 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_1073 : BitVec 32 := 4#32
  let v992 : BitVec 32 := Scalar.muli v12 c4_i32_1073
  let v993 : BitVec 32 := Scalar.addi c0_i32_1074 v992
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1075 : BitVec 32 := 2#32
  let v994 : BitVec 32 := Scalar.muli v5 c2_i32_1075
  let v995 : BitVec 32 := Scalar.addi v993 v994
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1076 : BitVec 32 := 1#32
  let v996 : BitVec 32 := Scalar.muli v8 c1_i32_1076
  let v997 : BitVec 32 := Scalar.addi v995 v996
  v997.toNat
def k0_dev28 (d0 : Dev nD) : Nat :=
  let c0_i32_1116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1115 : BitVec 32 := 4#32
  let v1024 : BitVec 32 := Scalar.muli v2 c4_i32_1115
  let v1025 : BitVec 32 := Scalar.addi c0_i32_1116 v1024
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_1117 : BitVec 32 := 2#32
  let v1026 : BitVec 32 := Scalar.muli v13 c2_i32_1117
  let v1027 : BitVec 32 := Scalar.addi v1025 v1026
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1118 : BitVec 32 := 1#32
  let v1028 : BitVec 32 := Scalar.muli v8 c1_i32_1118
  let v1029 : BitVec 32 := Scalar.addi v1027 v1028
  v1029.toNat
def k0_dev29 (d0 : Dev nD) : Nat :=
  let c0_i32_1132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1131 : BitVec 32 := 4#32
  let v1038 : BitVec 32 := Scalar.muli v2 c4_i32_1131
  let v1039 : BitVec 32 := Scalar.addi c0_i32_1132 v1038
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_1133 : BitVec 32 := 2#32
  let v1040 : BitVec 32 := Scalar.muli v13 c2_i32_1133
  let v1041 : BitVec 32 := Scalar.addi v1039 v1040
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1134 : BitVec 32 := 1#32
  let v1042 : BitVec 32 := Scalar.muli v8 c1_i32_1134
  let v1043 : BitVec 32 := Scalar.addi v1041 v1042
  v1043.toNat
def k0_dev30 (d0 : Dev nD) : Nat :=
  let c0_i32_1253 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1252 : BitVec 32 := 4#32
  let v1137 : BitVec 32 := Scalar.muli v2 c4_i32_1252
  let v1138 : BitVec 32 := Scalar.addi c0_i32_1253 v1137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1254 : BitVec 32 := 2#32
  let v1139 : BitVec 32 := Scalar.muli v5 c2_i32_1254
  let v1140 : BitVec 32 := Scalar.addi v1138 v1139
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_1255 : BitVec 32 := 1#32
  let v1141 : BitVec 32 := Scalar.muli v11 c1_i32_1255
  let v1142 : BitVec 32 := Scalar.addi v1140 v1141
  v1142.toNat
def k0_dev31 (d0 : Dev nD) : Nat :=
  let c0_i32_1298 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1297 : BitVec 32 := 4#32
  let v1177 : BitVec 32 := Scalar.muli v2 c4_i32_1297
  let v1178 : BitVec 32 := Scalar.addi c0_i32_1298 v1177
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_1299 : BitVec 32 := 2#32
  let v1179 : BitVec 32 := Scalar.muli v13 c2_i32_1299
  let v1180 : BitVec 32 := Scalar.addi v1178 v1179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1300 : BitVec 32 := 1#32
  let v1181 : BitVec 32 := Scalar.muli v8 c1_i32_1300
  let v1182 : BitVec 32 := Scalar.addi v1180 v1181
  v1182.toNat
def k0_dev32 (d0 : Dev nD) : Nat :=
  let c0_i32_1340 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_1339 : BitVec 32 := 4#32
  let v1209 : BitVec 32 := Scalar.muli v12 c4_i32_1339
  let v1210 : BitVec 32 := Scalar.addi c0_i32_1340 v1209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1341 : BitVec 32 := 2#32
  let v1211 : BitVec 32 := Scalar.muli v5 c2_i32_1341
  let v1212 : BitVec 32 := Scalar.addi v1210 v1211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1342 : BitVec 32 := 1#32
  let v1213 : BitVec 32 := Scalar.muli v8 c1_i32_1342
  let v1214 : BitVec 32 := Scalar.addi v1212 v1213
  v1214.toNat
def k0_dev33 (d0 : Dev nD) : Nat :=
  let c0_i32_1356 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_1355 : BitVec 32 := 4#32
  let v1223 : BitVec 32 := Scalar.muli v12 c4_i32_1355
  let v1224 : BitVec 32 := Scalar.addi c0_i32_1356 v1223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1357 : BitVec 32 := 2#32
  let v1225 : BitVec 32 := Scalar.muli v5 c2_i32_1357
  let v1226 : BitVec 32 := Scalar.addi v1224 v1225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1358 : BitVec 32 := 1#32
  let v1227 : BitVec 32 := Scalar.muli v8 c1_i32_1358
  let v1228 : BitVec 32 := Scalar.addi v1226 v1227
  v1228.toNat
def k0_dev34 (d0 : Dev nD) : Nat :=
  let c0_i32_1477 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1476 : BitVec 32 := 4#32
  let v1322 : BitVec 32 := Scalar.muli v2 c4_i32_1476
  let v1323 : BitVec 32 := Scalar.addi c0_i32_1477 v1322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1478 : BitVec 32 := 2#32
  let v1324 : BitVec 32 := Scalar.muli v5 c2_i32_1478
  let v1325 : BitVec 32 := Scalar.addi v1323 v1324
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_1479 : BitVec 32 := 1#32
  let v1326 : BitVec 32 := Scalar.muli v11 c1_i32_1479
  let v1327 : BitVec 32 := Scalar.addi v1325 v1326
  v1327.toNat
def k0_dev35 (d0 : Dev nD) : Nat :=
  let c0_i32_1522 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_1521 : BitVec 32 := 4#32
  let v1362 : BitVec 32 := Scalar.muli v12 c4_i32_1521
  let v1363 : BitVec 32 := Scalar.addi c0_i32_1522 v1362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1523 : BitVec 32 := 2#32
  let v1364 : BitVec 32 := Scalar.muli v5 c2_i32_1523
  let v1365 : BitVec 32 := Scalar.addi v1363 v1364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1524 : BitVec 32 := 1#32
  let v1366 : BitVec 32 := Scalar.muli v8 c1_i32_1524
  let v1367 : BitVec 32 := Scalar.addi v1365 v1366
  v1367.toNat
def k0_dev36 (d0 : Dev nD) : Nat :=
  let c0_i32_1564 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1563 : BitVec 32 := 4#32
  let v1394 : BitVec 32 := Scalar.muli v2 c4_i32_1563
  let v1395 : BitVec 32 := Scalar.addi c0_i32_1564 v1394
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_1565 : BitVec 32 := 2#32
  let v1396 : BitVec 32 := Scalar.muli v13 c2_i32_1565
  let v1397 : BitVec 32 := Scalar.addi v1395 v1396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1566 : BitVec 32 := 1#32
  let v1398 : BitVec 32 := Scalar.muli v8 c1_i32_1566
  let v1399 : BitVec 32 := Scalar.addi v1397 v1398
  v1399.toNat
def k0_dev37 (d0 : Dev nD) : Nat :=
  let c0_i32_1580 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1579 : BitVec 32 := 4#32
  let v1408 : BitVec 32 := Scalar.muli v2 c4_i32_1579
  let v1409 : BitVec 32 := Scalar.addi c0_i32_1580 v1408
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_1581 : BitVec 32 := 2#32
  let v1410 : BitVec 32 := Scalar.muli v13 c2_i32_1581
  let v1411 : BitVec 32 := Scalar.addi v1409 v1410
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1582 : BitVec 32 := 1#32
  let v1412 : BitVec 32 := Scalar.muli v8 c1_i32_1582
  let v1413 : BitVec 32 := Scalar.addi v1411 v1412
  v1413.toNat
def k0_dev38 (d0 : Dev nD) : Nat :=
  let c0_i32_1701 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1700 : BitVec 32 := 4#32
  let v1507 : BitVec 32 := Scalar.muli v2 c4_i32_1700
  let v1508 : BitVec 32 := Scalar.addi c0_i32_1701 v1507
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1702 : BitVec 32 := 2#32
  let v1509 : BitVec 32 := Scalar.muli v5 c2_i32_1702
  let v1510 : BitVec 32 := Scalar.addi v1508 v1509
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_1703 : BitVec 32 := 1#32
  let v1511 : BitVec 32 := Scalar.muli v11 c1_i32_1703
  let v1512 : BitVec 32 := Scalar.addi v1510 v1511
  v1512.toNat
def k0_dev39 (d0 : Dev nD) : Nat :=
  let c0_i32_1746 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1745 : BitVec 32 := 4#32
  let v1547 : BitVec 32 := Scalar.muli v2 c4_i32_1745
  let v1548 : BitVec 32 := Scalar.addi c0_i32_1746 v1547
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_1747 : BitVec 32 := 2#32
  let v1549 : BitVec 32 := Scalar.muli v13 c2_i32_1747
  let v1550 : BitVec 32 := Scalar.addi v1548 v1549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1748 : BitVec 32 := 1#32
  let v1551 : BitVec 32 := Scalar.muli v8 c1_i32_1748
  let v1552 : BitVec 32 := Scalar.addi v1550 v1551
  v1552.toNat
def k0_dev40 (d0 : Dev nD) : Nat :=
  let c0_i32_1788 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_1787 : BitVec 32 := 4#32
  let v1579 : BitVec 32 := Scalar.muli v12 c4_i32_1787
  let v1580 : BitVec 32 := Scalar.addi c0_i32_1788 v1579
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1789 : BitVec 32 := 2#32
  let v1581 : BitVec 32 := Scalar.muli v5 c2_i32_1789
  let v1582 : BitVec 32 := Scalar.addi v1580 v1581
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1790 : BitVec 32 := 1#32
  let v1583 : BitVec 32 := Scalar.muli v8 c1_i32_1790
  let v1584 : BitVec 32 := Scalar.addi v1582 v1583
  v1584.toNat
def k0_dev41 (d0 : Dev nD) : Nat :=
  let c0_i32_1804 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_1803 : BitVec 32 := 4#32
  let v1593 : BitVec 32 := Scalar.muli v12 c4_i32_1803
  let v1594 : BitVec 32 := Scalar.addi c0_i32_1804 v1593
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1805 : BitVec 32 := 2#32
  let v1595 : BitVec 32 := Scalar.muli v5 c2_i32_1805
  let v1596 : BitVec 32 := Scalar.addi v1594 v1595
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1806 : BitVec 32 := 1#32
  let v1597 : BitVec 32 := Scalar.muli v8 c1_i32_1806
  let v1598 : BitVec 32 := Scalar.addi v1596 v1597
  v1598.toNat
def k0_dev42 (d0 : Dev nD) : Nat :=
  let c0_i32_1925 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1924 : BitVec 32 := 4#32
  let v1692 : BitVec 32 := Scalar.muli v2 c4_i32_1924
  let v1693 : BitVec 32 := Scalar.addi c0_i32_1925 v1692
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1926 : BitVec 32 := 2#32
  let v1694 : BitVec 32 := Scalar.muli v5 c2_i32_1926
  let v1695 : BitVec 32 := Scalar.addi v1693 v1694
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_1927 : BitVec 32 := 1#32
  let v1696 : BitVec 32 := Scalar.muli v11 c1_i32_1927
  let v1697 : BitVec 32 := Scalar.addi v1695 v1696
  v1697.toNat
def k0_dev43 (d0 : Dev nD) : Nat :=
  let c0_i32_1970 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_1969 : BitVec 32 := 4#32
  let v1732 : BitVec 32 := Scalar.muli v12 c4_i32_1969
  let v1733 : BitVec 32 := Scalar.addi c0_i32_1970 v1732
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1971 : BitVec 32 := 2#32
  let v1734 : BitVec 32 := Scalar.muli v5 c2_i32_1971
  let v1735 : BitVec 32 := Scalar.addi v1733 v1734
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1972 : BitVec 32 := 1#32
  let v1736 : BitVec 32 := Scalar.muli v8 c1_i32_1972
  let v1737 : BitVec 32 := Scalar.addi v1735 v1736
  v1737.toNat
def k0_dev44 (d0 : Dev nD) : Nat :=
  let c0_i32_2012 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2011 : BitVec 32 := 4#32
  let v1764 : BitVec 32 := Scalar.muli v2 c4_i32_2011
  let v1765 : BitVec 32 := Scalar.addi c0_i32_2012 v1764
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_2013 : BitVec 32 := 2#32
  let v1766 : BitVec 32 := Scalar.muli v13 c2_i32_2013
  let v1767 : BitVec 32 := Scalar.addi v1765 v1766
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2014 : BitVec 32 := 1#32
  let v1768 : BitVec 32 := Scalar.muli v8 c1_i32_2014
  let v1769 : BitVec 32 := Scalar.addi v1767 v1768
  v1769.toNat
def k0_dev45 (d0 : Dev nD) : Nat :=
  let c0_i32_2028 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2027 : BitVec 32 := 4#32
  let v1778 : BitVec 32 := Scalar.muli v2 c4_i32_2027
  let v1779 : BitVec 32 := Scalar.addi c0_i32_2028 v1778
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_2029 : BitVec 32 := 2#32
  let v1780 : BitVec 32 := Scalar.muli v13 c2_i32_2029
  let v1781 : BitVec 32 := Scalar.addi v1779 v1780
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2030 : BitVec 32 := 1#32
  let v1782 : BitVec 32 := Scalar.muli v8 c1_i32_2030
  let v1783 : BitVec 32 := Scalar.addi v1781 v1782
  v1783.toNat
def k0_dev46 (d0 : Dev nD) : Nat :=
  let c0_i32_2149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2148 : BitVec 32 := 4#32
  let v1877 : BitVec 32 := Scalar.muli v2 c4_i32_2148
  let v1878 : BitVec 32 := Scalar.addi c0_i32_2149 v1877
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2150 : BitVec 32 := 2#32
  let v1879 : BitVec 32 := Scalar.muli v5 c2_i32_2150
  let v1880 : BitVec 32 := Scalar.addi v1878 v1879
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_2151 : BitVec 32 := 1#32
  let v1881 : BitVec 32 := Scalar.muli v11 c1_i32_2151
  let v1882 : BitVec 32 := Scalar.addi v1880 v1881
  v1882.toNat
def k0_dev47 (d0 : Dev nD) : Nat :=
  let c0_i32_2194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2193 : BitVec 32 := 4#32
  let v1917 : BitVec 32 := Scalar.muli v2 c4_i32_2193
  let v1918 : BitVec 32 := Scalar.addi c0_i32_2194 v1917
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_2195 : BitVec 32 := 2#32
  let v1919 : BitVec 32 := Scalar.muli v13 c2_i32_2195
  let v1920 : BitVec 32 := Scalar.addi v1918 v1919
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2196 : BitVec 32 := 1#32
  let v1921 : BitVec 32 := Scalar.muli v8 c1_i32_2196
  let v1922 : BitVec 32 := Scalar.addi v1920 v1921
  v1922.toNat
def k0_dev48 (d0 : Dev nD) : Nat :=
  let c0_i32_2236 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_2235 : BitVec 32 := 4#32
  let v1949 : BitVec 32 := Scalar.muli v12 c4_i32_2235
  let v1950 : BitVec 32 := Scalar.addi c0_i32_2236 v1949
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2237 : BitVec 32 := 2#32
  let v1951 : BitVec 32 := Scalar.muli v5 c2_i32_2237
  let v1952 : BitVec 32 := Scalar.addi v1950 v1951
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2238 : BitVec 32 := 1#32
  let v1953 : BitVec 32 := Scalar.muli v8 c1_i32_2238
  let v1954 : BitVec 32 := Scalar.addi v1952 v1953
  v1954.toNat
def k0_dev49 (d0 : Dev nD) : Nat :=
  let c0_i32_2252 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_2251 : BitVec 32 := 4#32
  let v1963 : BitVec 32 := Scalar.muli v12 c4_i32_2251
  let v1964 : BitVec 32 := Scalar.addi c0_i32_2252 v1963
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2253 : BitVec 32 := 2#32
  let v1965 : BitVec 32 := Scalar.muli v5 c2_i32_2253
  let v1966 : BitVec 32 := Scalar.addi v1964 v1965
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2254 : BitVec 32 := 1#32
  let v1967 : BitVec 32 := Scalar.muli v8 c1_i32_2254
  let v1968 : BitVec 32 := Scalar.addi v1966 v1967
  v1968.toNat
def k0_dev50 (d0 : Dev nD) : Nat :=
  let c0_i32_2373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2372 : BitVec 32 := 4#32
  let v2062 : BitVec 32 := Scalar.muli v2 c4_i32_2372
  let v2063 : BitVec 32 := Scalar.addi c0_i32_2373 v2062
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2374 : BitVec 32 := 2#32
  let v2064 : BitVec 32 := Scalar.muli v5 c2_i32_2374
  let v2065 : BitVec 32 := Scalar.addi v2063 v2064
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_2375 : BitVec 32 := 1#32
  let v2066 : BitVec 32 := Scalar.muli v11 c1_i32_2375
  let v2067 : BitVec 32 := Scalar.addi v2065 v2066
  v2067.toNat
def k0_dev51 (d0 : Dev nD) : Nat :=
  let c0_i32_2418 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_2417 : BitVec 32 := 4#32
  let v2102 : BitVec 32 := Scalar.muli v12 c4_i32_2417
  let v2103 : BitVec 32 := Scalar.addi c0_i32_2418 v2102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2419 : BitVec 32 := 2#32
  let v2104 : BitVec 32 := Scalar.muli v5 c2_i32_2419
  let v2105 : BitVec 32 := Scalar.addi v2103 v2104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2420 : BitVec 32 := 1#32
  let v2106 : BitVec 32 := Scalar.muli v8 c1_i32_2420
  let v2107 : BitVec 32 := Scalar.addi v2105 v2106
  v2107.toNat
def k0_dev52 (d0 : Dev nD) : Nat :=
  let c0_i32_2460 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2459 : BitVec 32 := 4#32
  let v2134 : BitVec 32 := Scalar.muli v2 c4_i32_2459
  let v2135 : BitVec 32 := Scalar.addi c0_i32_2460 v2134
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_2461 : BitVec 32 := 2#32
  let v2136 : BitVec 32 := Scalar.muli v13 c2_i32_2461
  let v2137 : BitVec 32 := Scalar.addi v2135 v2136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2462 : BitVec 32 := 1#32
  let v2138 : BitVec 32 := Scalar.muli v8 c1_i32_2462
  let v2139 : BitVec 32 := Scalar.addi v2137 v2138
  v2139.toNat
def k0_dev53 (d0 : Dev nD) : Nat :=
  let c0_i32_2476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2475 : BitVec 32 := 4#32
  let v2148 : BitVec 32 := Scalar.muli v2 c4_i32_2475
  let v2149 : BitVec 32 := Scalar.addi c0_i32_2476 v2148
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_2477 : BitVec 32 := 2#32
  let v2150 : BitVec 32 := Scalar.muli v13 c2_i32_2477
  let v2151 : BitVec 32 := Scalar.addi v2149 v2150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2478 : BitVec 32 := 1#32
  let v2152 : BitVec 32 := Scalar.muli v8 c1_i32_2478
  let v2153 : BitVec 32 := Scalar.addi v2151 v2152
  v2153.toNat
def k0_dev54 (d0 : Dev nD) : Nat :=
  let c0_i32_2592 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2591 : BitVec 32 := 4#32
  let v2242 : BitVec 32 := Scalar.muli v2 c4_i32_2591
  let v2243 : BitVec 32 := Scalar.addi c0_i32_2592 v2242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2593 : BitVec 32 := 2#32
  let v2244 : BitVec 32 := Scalar.muli v5 c2_i32_2593
  let v2245 : BitVec 32 := Scalar.addi v2243 v2244
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_2594 : BitVec 32 := 1#32
  let v2246 : BitVec 32 := Scalar.muli v11 c1_i32_2594
  let v2247 : BitVec 32 := Scalar.addi v2245 v2246
  v2247.toNat
def k0_dev55 (d0 : Dev nD) : Nat :=
  let c0_i32_2637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2636 : BitVec 32 := 4#32
  let v2282 : BitVec 32 := Scalar.muli v2 c4_i32_2636
  let v2283 : BitVec 32 := Scalar.addi c0_i32_2637 v2282
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_2638 : BitVec 32 := 2#32
  let v2284 : BitVec 32 := Scalar.muli v13 c2_i32_2638
  let v2285 : BitVec 32 := Scalar.addi v2283 v2284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2639 : BitVec 32 := 1#32
  let v2286 : BitVec 32 := Scalar.muli v8 c1_i32_2639
  let v2287 : BitVec 32 := Scalar.addi v2285 v2286
  v2287.toNat
def k0_dev56 (d0 : Dev nD) : Nat :=
  let c0_i32_2679 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_2678 : BitVec 32 := 4#32
  let v2314 : BitVec 32 := Scalar.muli v12 c4_i32_2678
  let v2315 : BitVec 32 := Scalar.addi c0_i32_2679 v2314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2680 : BitVec 32 := 2#32
  let v2316 : BitVec 32 := Scalar.muli v5 c2_i32_2680
  let v2317 : BitVec 32 := Scalar.addi v2315 v2316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2681 : BitVec 32 := 1#32
  let v2318 : BitVec 32 := Scalar.muli v8 c1_i32_2681
  let v2319 : BitVec 32 := Scalar.addi v2317 v2318
  v2319.toNat
def k0_dev57 (d0 : Dev nD) : Nat :=
  let c0_i32_2695 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_2694 : BitVec 32 := 4#32
  let v2328 : BitVec 32 := Scalar.muli v12 c4_i32_2694
  let v2329 : BitVec 32 := Scalar.addi c0_i32_2695 v2328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2696 : BitVec 32 := 2#32
  let v2330 : BitVec 32 := Scalar.muli v5 c2_i32_2696
  let v2331 : BitVec 32 := Scalar.addi v2329 v2330
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2697 : BitVec 32 := 1#32
  let v2332 : BitVec 32 := Scalar.muli v8 c1_i32_2697
  let v2333 : BitVec 32 := Scalar.addi v2331 v2332
  v2333.toNat
def k0_dev58 (d0 : Dev nD) : Nat :=
  let c0_i32_2831 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_2830 : BitVec 32 := 4#32
  let v2434 : BitVec 32 := Scalar.muli v12 c4_i32_2830
  let v2435 : BitVec 32 := Scalar.addi c0_i32_2831 v2434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2832 : BitVec 32 := 2#32
  let v2436 : BitVec 32 := Scalar.muli v5 c2_i32_2832
  let v2437 : BitVec 32 := Scalar.addi v2435 v2436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2833 : BitVec 32 := 1#32
  let v2438 : BitVec 32 := Scalar.muli v8 c1_i32_2833
  let v2439 : BitVec 32 := Scalar.addi v2437 v2438
  v2439.toNat
def k0_dev59 (d0 : Dev nD) : Nat :=
  let c0_i32_2873 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2872 : BitVec 32 := 4#32
  let v2466 : BitVec 32 := Scalar.muli v2 c4_i32_2872
  let v2467 : BitVec 32 := Scalar.addi c0_i32_2873 v2466
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_2874 : BitVec 32 := 2#32
  let v2468 : BitVec 32 := Scalar.muli v13 c2_i32_2874
  let v2469 : BitVec 32 := Scalar.addi v2467 v2468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2875 : BitVec 32 := 1#32
  let v2470 : BitVec 32 := Scalar.muli v8 c1_i32_2875
  let v2471 : BitVec 32 := Scalar.addi v2469 v2470
  v2471.toNat
def k0_dev60 (d0 : Dev nD) : Nat :=
  let c0_i32_2889 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2888 : BitVec 32 := 4#32
  let v2480 : BitVec 32 := Scalar.muli v2 c4_i32_2888
  let v2481 : BitVec 32 := Scalar.addi c0_i32_2889 v2480
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_2890 : BitVec 32 := 2#32
  let v2482 : BitVec 32 := Scalar.muli v13 c2_i32_2890
  let v2483 : BitVec 32 := Scalar.addi v2481 v2482
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2891 : BitVec 32 := 1#32
  let v2484 : BitVec 32 := Scalar.muli v8 c1_i32_2891
  let v2485 : BitVec 32 := Scalar.addi v2483 v2484
  v2485.toNat
def k0_dev61 (d0 : Dev nD) : Nat :=
  let c0_i32_3025 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3024 : BitVec 32 := 4#32
  let v2586 : BitVec 32 := Scalar.muli v2 c4_i32_3024
  let v2587 : BitVec 32 := Scalar.addi c0_i32_3025 v2586
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_3026 : BitVec 32 := 2#32
  let v2588 : BitVec 32 := Scalar.muli v13 c2_i32_3026
  let v2589 : BitVec 32 := Scalar.addi v2587 v2588
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3027 : BitVec 32 := 1#32
  let v2590 : BitVec 32 := Scalar.muli v8 c1_i32_3027
  let v2591 : BitVec 32 := Scalar.addi v2589 v2590
  v2591.toNat
def k0_dev62 (d0 : Dev nD) : Nat :=
  let c0_i32_3067 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_3066 : BitVec 32 := 4#32
  let v2618 : BitVec 32 := Scalar.muli v12 c4_i32_3066
  let v2619 : BitVec 32 := Scalar.addi c0_i32_3067 v2618
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3068 : BitVec 32 := 2#32
  let v2620 : BitVec 32 := Scalar.muli v5 c2_i32_3068
  let v2621 : BitVec 32 := Scalar.addi v2619 v2620
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3069 : BitVec 32 := 1#32
  let v2622 : BitVec 32 := Scalar.muli v8 c1_i32_3069
  let v2623 : BitVec 32 := Scalar.addi v2621 v2622
  v2623.toNat
def k0_dev63 (d0 : Dev nD) : Nat :=
  let c0_i32_3083 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_3082 : BitVec 32 := 4#32
  let v2632 : BitVec 32 := Scalar.muli v12 c4_i32_3082
  let v2633 : BitVec 32 := Scalar.addi c0_i32_3083 v2632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3084 : BitVec 32 := 2#32
  let v2634 : BitVec 32 := Scalar.muli v5 c2_i32_3084
  let v2635 : BitVec 32 := Scalar.addi v2633 v2634
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3085 : BitVec 32 := 1#32
  let v2636 : BitVec 32 := Scalar.muli v8 c1_i32_3085
  let v2637 : BitVec 32 := Scalar.addi v2635 v2636
  v2637.toNat
def k0_dev64 (d0 : Dev nD) : Nat :=
  let c0_i32_3216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3215 : BitVec 32 := 4#32
  let v2730 : BitVec 32 := Scalar.muli v2 c4_i32_3215
  let v2731 : BitVec 32 := Scalar.addi c0_i32_3216 v2730
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_3217 : BitVec 32 := 2#32
  let v2732 : BitVec 32 := Scalar.muli v13 c2_i32_3217
  let v2733 : BitVec 32 := Scalar.addi v2731 v2732
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3218 : BitVec 32 := 1#32
  let v2734 : BitVec 32 := Scalar.muli v8 c1_i32_3218
  let v2735 : BitVec 32 := Scalar.addi v2733 v2734
  v2735.toNat
def k0_dev65 (d0 : Dev nD) : Nat :=
  let c0_i32_3232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3231 : BitVec 32 := 4#32
  let v2744 : BitVec 32 := Scalar.muli v2 c4_i32_3231
  let v2745 : BitVec 32 := Scalar.addi c0_i32_3232 v2744
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_3233 : BitVec 32 := 2#32
  let v2746 : BitVec 32 := Scalar.muli v13 c2_i32_3233
  let v2747 : BitVec 32 := Scalar.addi v2745 v2746
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3234 : BitVec 32 := 1#32
  let v2748 : BitVec 32 := Scalar.muli v8 c1_i32_3234
  let v2749 : BitVec 32 := Scalar.addi v2747 v2748
  v2749.toNat
def k0_dev66 (d0 : Dev nD) : Nat :=
  let c0_i32_3365 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_3364 : BitVec 32 := 4#32
  let v2842 : BitVec 32 := Scalar.muli v12 c4_i32_3364
  let v2843 : BitVec 32 := Scalar.addi c0_i32_3365 v2842
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3366 : BitVec 32 := 2#32
  let v2844 : BitVec 32 := Scalar.muli v5 c2_i32_3366
  let v2845 : BitVec 32 := Scalar.addi v2843 v2844
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3367 : BitVec 32 := 1#32
  let v2846 : BitVec 32 := Scalar.muli v8 c1_i32_3367
  let v2847 : BitVec 32 := Scalar.addi v2845 v2846
  v2847.toNat
def k0_dev67 (d0 : Dev nD) : Nat :=
  let c0_i32_3381 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_3380 : BitVec 32 := 4#32
  let v2856 : BitVec 32 := Scalar.muli v12 c4_i32_3380
  let v2857 : BitVec 32 := Scalar.addi c0_i32_3381 v2856
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3382 : BitVec 32 := 2#32
  let v2858 : BitVec 32 := Scalar.muli v5 c2_i32_3382
  let v2859 : BitVec 32 := Scalar.addi v2857 v2858
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3383 : BitVec 32 := 1#32
  let v2860 : BitVec 32 := Scalar.muli v8 c1_i32_3383
  let v2861 : BitVec 32 := Scalar.addi v2859 v2860
  v2861.toNat
def k0_dev68 (d0 : Dev nD) : Nat :=
  let c0_i32_3675_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3674_r0 : BitVec 32 := 4#32
  let v3079_r0 : BitVec 32 := Scalar.muli v2 c4_i32_3674_r0
  let v3080_r0 : BitVec 32 := Scalar.addi c0_i32_3675_r0 v3079_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3676_r0 : BitVec 32 := 2#32
  let v3081_r0 : BitVec 32 := Scalar.muli v5 c2_i32_3676_r0
  let v3082_r0 : BitVec 32 := Scalar.addi v3080_r0 v3081_r0
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_3677_r0 : BitVec 32 := 1#32
  let v3083_r0 : BitVec 32 := Scalar.muli v11 c1_i32_3677_r0
  let v3084_r0 : BitVec 32 := Scalar.addi v3082_r0 v3083_r0
  v3084_r0.toNat
def k0_dev69 (d0 : Dev nD) : Nat :=
  let c0_i32_3680_r0 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_3679_r0 : BitVec 32 := 4#32
  let v3085_r0 : BitVec 32 := Scalar.muli v12 c4_i32_3679_r0
  let v3086_r0 : BitVec 32 := Scalar.addi c0_i32_3680_r0 v3085_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3681_r0 : BitVec 32 := 2#32
  let v3087_r0 : BitVec 32 := Scalar.muli v5 c2_i32_3681_r0
  let v3088_r0 : BitVec 32 := Scalar.addi v3086_r0 v3087_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3682_r0 : BitVec 32 := 1#32
  let v3089_r0 : BitVec 32 := Scalar.muli v8 c1_i32_3682_r0
  let v3090_r0 : BitVec 32 := Scalar.addi v3088_r0 v3089_r0
  v3090_r0.toNat
def k0_dev70 (d0 : Dev nD) : Nat :=
  let c0_i32_3685_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3684_r0 : BitVec 32 := 4#32
  let v3091_r0 : BitVec 32 := Scalar.muli v2 c4_i32_3684_r0
  let v3092_r0 : BitVec 32 := Scalar.addi c0_i32_3685_r0 v3091_r0
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_3686_r0 : BitVec 32 := 2#32
  let v3093_r0 : BitVec 32 := Scalar.muli v13 c2_i32_3686_r0
  let v3094_r0 : BitVec 32 := Scalar.addi v3092_r0 v3093_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3687_r0 : BitVec 32 := 1#32
  let v3095_r0 : BitVec 32 := Scalar.muli v8 c1_i32_3687_r0
  let v3096_r0 : BitVec 32 := Scalar.addi v3094_r0 v3095_r0
  v3096_r0.toNat
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Stages.lean ====
/-
# The program of one device, cut into stages

The body of the kernel is one straight line of operations for each device. Here it is written as a
composition of a few stage programs, each parametric in the row chunk it works on:

* `prologue`: the first chunk's partial product, computed while the column tiles arrive;
* `stageA k`: the partial product of chunk `k`, sent to the device with the other half of the
  contraction;
* `stageB k`: the two halves added, the sum sent to the first of the two peers of chunk `k`;
* `stageC k`: the first peer's sum received, both sums sent to the second peer;
* `stageD k`: the four quarters of the rows assembled and copied out.

A chunk of even number sends first along `x` then along `y`, a chunk of odd number the other way.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelProof

open Cert.KernelIdeal Cert.KernelIdeal.Gen
open Idealize.ShloMosaic Idealize.ShloMosaic.TcCoe Idealize.SL.Sem

variable {F : FTy → Type} [FloatOps F]

/-! ## The mesh -/

/-- The device with the other half of the contraction: the other coordinate along `z`. -/
def zPeer (c : Dev nD) : Dev nD := ⟨c.val / 2 * 2 + (1 - c.val % 2), by have := c.isLt; simp only [nD] at *; omega⟩

/-- The neighbour along `x`. -/
def xPeer (c : Dev nD) : Dev nD := ⟨(c.val + 4) % 8, by simp only [nD]; omega⟩

/-- The neighbour along `y`. -/
def yPeer (c : Dev nD) : Dev nD := ⟨c.val / 4 * 4 + (c.val + 2) % 4, by have := c.isLt; simp only [nD] at *; omega⟩

/-- The quarter of the columns a device computes. -/
def quarter (c : Dev nD) : Fin 4 := ⟨c.val / 2, by have := c.isLt; simp only [nD] at *; omega⟩

/-- Whether a chunk goes along `x` first. -/
def xFirst (k : Fin 16) : Bool := k.val % 2 == 0

/-! ## The buffers and their slots -/

/-- The device's block of the left operand. -/
abbrev dyM : Memref sig .tc .hbm S2048x8192 .f32 := Memref.whole main_arg0
/-- The device's block of the right operand. -/
abbrev wM : Memref sig .tc .hbm S2048x8192 .f32 := Memref.whole main_arg1
/-- The result. -/
abbrev outM : Memref sig .tc .hbm S2048x2048 .f32 := Memref.whole main_v1
/-- The staging buffer of the right operand. -/
abbrev wstM : Memref sig .tc .vmem S2x512x2048 .f32 := Memref.whole cc0_scratch0
/-- The transposed right operand. -/
abbrev wqM : Memref sig .tc .vmem S8192x512 .bf16 := Memref.whole cc0_scratch1
/-- The staging buffer of the left operand. -/
abbrev dystM : Memref sig .tc .vmem S2x128x8192 .f32 := Memref.whole cc0_scratch2
/-- The partial products. -/
abbrev zsendM : Memref sig .tc .vmem S16x128x512 .bf16 := Memref.whole cc0_scratch3
/-- The `z` neighbour's partial products. -/
abbrev zrecvM : Memref sig .tc .vmem S16x128x512 .bf16 := Memref.whole cc0_scratch4
/-- The sums. -/
abbrev sumM : Memref sig .tc .vmem S16x128x512 .bf16 := Memref.whole cc0_scratch5
/-- What comes along `x`. -/
abbrev xrecvM : Memref sig .tc .vmem S16x2x128x512 .bf16 := Memref.whole cc0_scratch6
/-- What comes along `y`. -/
abbrev yrecvM : Memref sig .tc .vmem S16x2x128x512 .bf16 := Memref.whole cc0_scratch7
/-- The staging buffer of the result. -/
abbrev outstM : Memref sig .tc .vmem S2x128x2048 .f32 := Memref.whole cc0_scratch8

/-- Chunk `k` is within its buffer. -/
theorem inb16 (k : Fin 16) : ∀ a, (![k.val, 0, 0] : Fin 3 → Nat) a + S1x128x512.size a ≤ S16x128x512.size a := by
  revert k; decide
/-- Half `j` of chunk `k` is within a landing buffer. -/
theorem inb32 (k : Fin 16) (j : Fin 2) : ∀ a, (![k.val, j.val, 0, 0] : Fin 4 → Nat) a + S1x1x128x512.size a ≤ S16x2x128x512.size a := by
  revert k j; decide
/-- A slot of the left operand is within its buffer. -/
theorem inbDy (s : Fin 2) : ∀ a, (![s.val, 0, 0] : Fin 3 → Nat) a + S1x128x8192.size a ≤ S2x128x8192.size a := by
  revert s; decide
/-- The rows of chunk `k` are within the left operand. -/
theorem inbDyRows (k : Fin 16) : ∀ a, (![128 * k.val, 0] : Fin 2 → Nat) a + S128x8192.size a ≤ S2048x8192.size a := by
  revert k; decide
/-- A slot of the right operand is within its buffer. -/
theorem inbW (s : Fin 2) : ∀ a, (![s.val, 0, 0] : Fin 3 → Nat) a + S1x512x2048.size a ≤ S2x512x2048.size a := by
  revert s; decide
/-- Tile `i` of quarter `q` is within the right operand. -/
theorem inbWTile (q i : Fin 4) : ∀ a, (![512 * q.val, 2048 * i.val] : Fin 2 → Nat) a + S512x2048.size a ≤ S2048x8192.size a := by
  revert q i; decide
/-- Tile `i` is within the transposed operand. -/
theorem inbWq (i : Fin 4) : ∀ a, (![2048 * i.val, 0] : Fin 2 → Nat) a + S2048x512.size a ≤ S8192x512.size a := by
  revert i; decide
/-- A slot of the result is within its buffer. -/
theorem inbOut (s : Fin 2) : ∀ a, (![s.val, 0, 0] : Fin 3 → Nat) a + S1x128x2048.size a ≤ S2x128x2048.size a := by
  revert s; decide
/-- Quarter `j` of a slot is within its buffer. -/
theorem inbOutQ (s : Fin 2) (j : Fin 4) : ∀ a, (![s.val, 0, 512 * j.val] : Fin 3 → Nat) a + S1x128x512.size a ≤ S2x128x2048.size a := by
  revert s j; decide
/-- The rows of chunk `k` are within the result. -/
theorem inbOutRows (k : Fin 16) : ∀ a, (![128 * k.val, 0] : Fin 2 → Nat) a + S128x2048.size a ≤ S2048x2048.size a := by
  revert k; decide

/-- Chunk `k` of a buffer of sixteen chunks. -/
abbrev r16 (k : Fin 16) : Rect S16x128x512 := Rect.unit ![k.val, 0, 0] S1x128x512.size (inb16 k)
/-- Chunk `k`, half `j` of a landing buffer. -/
abbrev r32 (k : Fin 16) (j : Fin 2) : Rect S16x2x128x512 := Rect.unit ![k.val, j.val, 0, 0] S1x1x128x512.size (inb32 k j)
/-- Slot `s` of the staging buffer of the left operand. -/
abbrev rDy (s : Fin 2) : Rect S2x128x8192 := Rect.unit ![s.val, 0, 0] S1x128x8192.size (inbDy s)
/-- Rows of chunk `k` of the left operand. -/
abbrev rDyRows (k : Fin 16) : Rect S2048x8192 := Rect.unit ![128 * k.val, 0] S128x8192.size (inbDyRows k)
/-- Slot `s` of the staging buffer of the right operand. -/
abbrev rW (s : Fin 2) : Rect S2x512x2048 := Rect.unit ![s.val, 0, 0] S1x512x2048.size (inbW s)
/-- Tile `i` of the rows of quarter `q` of the right operand. -/
abbrev rWTile (q i : Fin 4) : Rect S2048x8192 := Rect.unit ![512 * q.val, 2048 * i.val] S512x2048.size (inbWTile q i)
/-- The rows of tile `i` in the transposed right operand. -/
abbrev rWq (i : Fin 4) : Rect S8192x512 := Rect.unit ![2048 * i.val, 0] S2048x512.size (inbWq i)
/-- The transposed right operand whole. -/
abbrev rWqAll : Rect S8192x512 := Rect.unit ![0, 0] S8192x512.size inb_S8192x512_S8192x512_0_0
/-- Slot `s` of the output's staging buffer. -/
abbrev rOut (s : Fin 2) : Rect S2x128x2048 := Rect.unit ![s.val, 0, 0] S1x128x2048.size (inbOut s)
/-- Quarter `j` of slot `s` of the output's staging buffer. -/
abbrev rOutQ (s : Fin 2) (j : Fin 4) : Rect S2x128x2048 := Rect.unit ![s.val, 0, 512 * j.val] S1x128x512.size (inbOutQ s j)
/-- Rows of chunk `k` of the output. -/
abbrev rOutRows (k : Fin 16) : Rect S2048x2048 := Rect.unit ![128 * k.val, 0] S128x2048.size (inbOutRows k)

/-- Chunk `k` of a buffer of sixteen chunks, as a matrix. -/
abbrev slot16 (M : Memref sig .tc .vmem S16x128x512 .bf16) (k : Fin 16) : Memref sig .tc .vmem S128x512 .bf16 :=
  (M.slice (r16 k) (fun _ => rfl)).squeeze S128x512 squeezes_S1x128x512_S128x512
/-- Chunk `k`, half `j` of a landing buffer, as a matrix. -/
abbrev slot32 (M : Memref sig .tc .vmem S16x2x128x512 .bf16) (k : Fin 16) (j : Fin 2) : Memref sig .tc .vmem S128x512 .bf16 :=
  (M.slice (r32 k j) (fun _ => rfl)).squeeze S128x512 squeezes_S1x1x128x512_S128x512
/-- Slot `s` of the left operand, as a matrix. -/
abbrev dySlot (s : Fin 2) : Memref sig .tc .vmem S128x8192 .f32 :=
  (dystM.slice (rDy s) (fun _ => rfl)).squeeze S128x8192 squeezes_S1x128x8192_S128x8192
/-- The rows of chunk `k` of the left operand. -/
abbrev dyRows (k : Fin 16) : Memref sig .tc .hbm S128x8192 .f32 := dyM.slice (rDyRows k) (fun _ => rfl)
/-- Slot `s` of the right operand, as a matrix. -/
abbrev wSlot (s : Fin 2) : Memref sig .tc .vmem S512x2048 .f32 :=
  (wstM.slice (rW s) (fun _ => rfl)).squeeze S512x2048 squeezes_S1x512x2048_S512x2048
/-- Tile `i` of the rows of quarter `q` of the right operand. -/
abbrev wTile (q i : Fin 4) : Memref sig .tc .hbm S512x2048 .f32 := wM.slice (rWTile q i) (fun _ => rfl)
/-- Slot `s` of the result, as a matrix. -/
abbrev outSlot (s : Fin 2) : Memref sig .tc .vmem S128x2048 .f32 :=
  (outstM.slice (rOut s) (fun _ => rfl)).squeeze S128x2048 squeezes_S1x128x2048_S128x2048
/-- The rows of chunk `k` of the result. -/
abbrev outRows (k : Fin 16) : Memref sig .tc .hbm S128x2048 .f32 := outM.slice (rOutRows k) (fun _ => rfl)

/-- A chunk's rows come in whole words of packed values, -/
theorem packed16 (k : Fin 16) : (r16 k).PackedRows (EltTy.packing .bf16) := by revert k; decide
/-- and so do a tile's rows of the transposed operand. -/
theorem packedWq (i : Fin 4) : (rWq i).PackedRows (EltTy.packing .bf16) := by revert i; decide
/-- A chunk fills whole words, -/
theorem words16 (k : Fin 16) : (r16 k).WholeWords (EltTy.packing .bf16) := by revert k; decide
/-- and so does half of a landing chunk. -/
theorem words32 (k : Fin 16) (j : Fin 2) : (r32 k j).WholeWords (EltTy.packing .bf16) := by revert k j; decide

/-- A chunk can be copied word by word, -/
theorem exact16 {M : Memref sig .tc .vmem S16x128x512 .bf16} (h : M.IsWhole) (k : Fin 16) : (slot16 M k).view.WordExact :=
  (h.wordExact_slice rfl _ (words16 k)).reshape _ _
/-- and so can half of a landing chunk. -/
theorem exact32 {M : Memref sig .tc .vmem S16x2x128x512 .bf16} (h : M.IsWhole) (k : Fin 16) (j : Fin 2) : (slot32 M k j).view.WordExact :=
  (h.wordExact_slice rfl _ (words32 k j)).reshape _ _

/-! ## The semaphores -/

/-- Semaphore `s` of an array of two. -/
abbrev sem2 (S : DmaSems sig S2) (s : Fin 2) : Fin sig.nDmaSem :=
  ((S.slice (Rect.unit (s := S2) ![s.val] S1.size (by revert s; decide))).squeeze S_ squeezes_S1_S_).sem
/-- Semaphore `k` of an array of sixteen. -/
abbrev sem16 (S : DmaSems sig S16) (k : Fin 16) : Fin sig.nDmaSem :=
  ((S.slice (Rect.unit (s := S16) ![k.val] S1.size (by revert k; decide))).squeeze S_ squeezes_S1_S_).sem
/-- Semaphore `(k, j)` of an array of sixteen pairs. -/
abbrev sem32 (S : DmaSems sig S16x2) (k : Fin 16) (j : Fin 2) : Fin sig.nDmaSem :=
  ((S.slice (Rect.unit (s := S16x2) ![k.val, j.val] S1x1.size (by revert k j; decide))).squeeze S_ squeezes_S1x1_S_).sem

/-! ## The four messages of a chunk

Message `0` is the partial product sent along `z`; message `1` the sum sent to the first peer; messages `2` and `3` the
sum and the first peer's sum sent to the second peer. -/

/-- The landing buffer of chunk `k`'s first exchange. -/
abbrev firstM (k : Fin 16) : Memref sig .tc .vmem S16x2x128x512 .bf16 := if xFirst k then xrecvM else yrecvM
/-- The landing buffer of chunk `k`'s second exchange. -/
abbrev secondM (k : Fin 16) : Memref sig .tc .vmem S16x2x128x512 .bf16 := if xFirst k then yrecvM else xrecvM
/-- The peer of chunk `k`'s first exchange. -/
abbrev firstPeer (k : Fin 16) (c : Dev nD) : Dev nD := if xFirst k then xPeer c else yPeer c
/-- The peer of chunk `k`'s second exchange. -/
abbrev secondPeer (k : Fin 16) (c : Dev nD) : Dev nD := if xFirst k then yPeer c else xPeer c

/-- The buffer in which the first hop lands is a whole buffer, -/
theorem firstM_whole (k : Fin 16) : (firstM k).IsWhole := by
  unfold firstM; split <;> exact Memref.isWhole_whole _
/-- and so is that of the second hop. -/
theorem secondM_whole (k : Fin 16) : (secondM k).IsWhole := by
  unfold secondM; split <;> exact Memref.isWhole_whole _

/-- Where message `i` of chunk `k` is sent from. -/
def srcOf (k : Fin 16) : Fin 4 → Memref sig .tc .vmem S128x512 .bf16 :=
  ![slot16 zsendM k, slot16 sumM k, slot16 sumM k, slot32 (firstM k) k 0]
/-- Where message `i` of chunk `k` lands. -/
def dstOf (k : Fin 16) : Fin 4 → Memref sig .tc .vmem S128x512 .bf16 :=
  ![slot16 zrecvM k, slot32 (firstM k) k 0, slot32 (secondM k) k 0, slot32 (secondM k) k 1]
/-- The device to which message `i` of chunk `k` goes. -/
def target (k : Fin 16) (i : Fin 4) (c : Dev nD) : Dev nD :=
  (![zPeer c, firstPeer k c, secondPeer k c, secondPeer k c] : Fin 4 → Dev nD) i
/-- The semaphore that message `i` of chunk `k` pays at its sender. -/
def sendSem (k : Fin 16) : Fin 4 → Fin sig.nDmaSem :=
  ![sem16 cc0_scratch11 k, sem32 (if xFirst k then cc0_scratch13 else cc0_scratch15) k 0,
    sem32 (if xFirst k then cc0_scratch15 else cc0_scratch13) k 0, sem32 (if xFirst k then cc0_scratch15 else cc0_scratch13) k 1]
/-- The semaphore that message `i` of chunk `k` pays at its receiver. -/
def recvSem (k : Fin 16) : Fin 4 → Fin sig.nDmaSem :=
  ![sem16 cc0_scratch12 k, sem32 (if xFirst k then cc0_scratch14 else cc0_scratch16) k 0,
    sem32 (if xFirst k then cc0_scratch16 else cc0_scratch14) k 0, sem32 (if xFirst k then cc0_scratch16 else cc0_scratch14) k 1]

/-- A message's source can be copied word by word, -/
theorem srcOf_exact (k : Fin 16) (i : Fin 4) : (srcOf k i).view.WordExact := by
  fin_cases i
  · exact exact16 (Memref.isWhole_whole _) k
  · exact exact16 (Memref.isWhole_whole _) k
  · exact exact16 (Memref.isWhole_whole _) k
  · exact exact32 (firstM_whole k) k 0
/-- and so can its destination. -/
theorem dstOf_exact (k : Fin 16) (i : Fin 4) : (dstOf k i).view.WordExact := by
  fin_cases i
  · exact exact16 (Memref.isWhole_whole _) k
  · exact exact32 (firstM_whole k) k 0
  · exact exact32 (secondM_whole k) k 0
  · exact exact32 (secondM_whole k) k 1

/-- A program of one device. -/
abbrev Code (F : FTy → Type) : Type → Type 1 := Prog (TpuEff nD τ sig (Elt F) Λ₀ .tc)

/-- Message `i` of chunk `k` sent. -/
def send (c : Dev nD) (k : Fin 16) (i : Fin 4) : Code F PUnit :=
  Prog.lift (.enqueueDma (srcOf k i) (.remote (Dev.tc (target k i c)) (dstOf k i) (.dma (sendSem k i))) (.dma (recvSem k i))
    (srcOf_exact k i) (dstOf_exact k i) ⟨⟨rfl, Or.inl rfl⟩, trivial⟩)
/-- The wait for message `i` of chunk `k` to have left. -/
def waitSend (k : Fin 16) (i : Fin 4) : Code F PUnit :=
  Prog.lift (.waitDma2 (sendSem k i) (dstOf k i) (srcOf k i) (dstOf_exact k i) (srcOf_exact k i))
/-- The wait for message `i` of chunk `k` to have arrived. -/
def waitRecv (k : Fin 16) (i : Fin 4) : Code F PUnit :=
  Prog.lift (.waitDma2 (recvSem k i) (srcOf k i) (dstOf k i) (srcOf_exact k i) (dstOf_exact k i))

/-! ## Copies within a device -/

/-- Values of 32 bits can be copied word by word. -/
theorem bits_exact {sp : Space} {s : Shape} (M : Memref sig .tc sp s .f32) : M.view.WordExact := View.wordExact_bits rfl

/-- Start the copy of the rows of chunk `k` into slot `s`. -/
def dyStart (k : Fin 16) (s : Fin 2) : Code F PUnit :=
  Prog.lift (.enqueueDma (dyRows k) (.here (dySlot s)) (.dma (sem2 cc0_scratch10 s)) (bits_exact _) (bits_exact _) ⟨Or.inl rfl, trivial⟩)
/-- Wait for that copy. -/
def dyWait (k : Fin 16) (s : Fin 2) : Code F PUnit :=
  Prog.lift (.waitDma2 (sem2 cc0_scratch10 s) (dyRows k) (dySlot s) (bits_exact _) (bits_exact _))
/-- Start the copy of tile `i` into slot `s`. -/
def wStart (q i : Fin 4) (s : Fin 2) : Code F PUnit :=
  Prog.lift (.enqueueDma (wTile q i) (.here (wSlot s)) (.dma (sem2 cc0_scratch9 s)) (bits_exact _) (bits_exact _) ⟨Or.inl rfl, trivial⟩)
/-- Wait for that copy. -/
def wWait (q i : Fin 4) (s : Fin 2) : Code F PUnit :=
  Prog.lift (.waitDma2 (sem2 cc0_scratch9 s) (wTile q i) (wSlot s) (bits_exact _) (bits_exact _))
/-- Start the copy of slot `s` to the rows of chunk `k`. -/
def outStart (k : Fin 16) (s : Fin 2) : Code F PUnit :=
  Prog.lift (.enqueueDma (outSlot s) (.here (outRows k)) (.dma (sem2 cc0_scratch17 s)) (bits_exact _) (bits_exact _) ⟨Or.inl rfl, trivial⟩)
/-- Wait for that copy. -/
def outWait (k : Fin 16) (s : Fin 2) : Code F PUnit :=
  Prog.lift (.waitDma2 (sem2 cc0_scratch17 s) (outSlot s) (outRows k) (bits_exact _) (bits_exact _))

/-! ## Loads and stores -/

/-- Load chunk `k`. -/
abbrev load16 (M : Memref sig .tc .vmem S16x128x512 .bf16) (k : Fin 16) : Code F (Vec F S1x128x512 .bf16) :=
  Prog.lift (.load M (r16 k).toLoadRect (View.loadsAt_vmem h_S1x128x512))
/-- Load half `j` of landing chunk `k`. -/
abbrev load32 (M : Memref sig .tc .vmem S16x2x128x512 .bf16) (k : Fin 16) (j : Fin 2) : Code F (Vec F S1x1x128x512 .bf16) :=
  Prog.lift (.load M (r32 k j).toLoadRect (View.loadsAt_vmem h_S1x1x128x512))
/-- Store chunk `k`. -/
def store16 (M : Memref sig .tc .vmem S16x128x512 .bf16) (h : M.IsWhole) (k : Fin 16) (w : FVec F S1x128x512 .bf16) : Code F PUnit :=
  Prog.lift (.store M (r16 k) w Finset.univ (View.stores_vmem h_S1x128x512 (h.storeExact_slice rfl _ (packed16 k)) (fun _ => rfl)) (.inl rfl))
/-- Load slot `s` of the left operand. -/
abbrev loadDy (s : Fin 2) : Code F (Vec F S1x128x8192 .f32) :=
  Prog.lift (.load dystM (rDy s).toLoadRect (View.loadsAt_vmem h_S1x128x8192))
/-- Load slot `s` of the right operand. -/
abbrev loadW (s : Fin 2) : Code F (Vec F S1x512x2048 .f32) :=
  Prog.lift (.load wstM (rW s).toLoadRect (View.loadsAt_vmem h_S1x512x2048))
/-- Load tile `i` of the transposed operand. -/
abbrev loadWq (i : Fin 4) : Code F (Vec F S2048x512 .bf16) :=
  Prog.lift (.load wqM (rWq i).toLoadRect (View.loadsAt_vmem h_S2048x512))
/-- Load the transposed operand. -/
abbrev loadWqAll : Code F (Vec F S8192x512 .bf16) :=
  Prog.lift (.load wqM rWqAll.toLoadRect (View.loadsAt_vmem h_S8192x512))
/-- Store tile `i` of the transposed operand. -/
def storeWq (i : Fin 4) (w : FVec F S2048x512 .bf16) : Code F PUnit :=
  Prog.lift (.store wqM (rWq i) w Finset.univ (View.stores_vmem h_S2048x512 ((Memref.isWhole_whole _).storeExact_slice rfl _ (packedWq i)) (fun _ => rfl)) (.inl rfl))
/-- Load quarter `j` of slot `s` of the result. -/
abbrev loadOut (s : Fin 2) (j : Fin 4) : Code F (Vec F S1x128x512 .f32) :=
  Prog.lift (.load outstM (rOutQ s j).toLoadRect (View.loadsAt_vmem h_S1x128x512))
/-- Store quarter `j` of slot `s` of the result. -/
def storeOut (s : Fin 2) (j : Fin 4) (w : FVec F S1x128x512 .f32) : Code F PUnit :=
  Prog.lift (.store outstM (rOutQ s j) w Finset.univ (View.stores_vmem_bits_univ h_S1x128x512 rfl) (.inl rfl))

/-! ## The stages -/

/-- The slot of the double buffers a chunk uses. -/
def par (k : ℕ) : Fin 2 := ⟨k % 2, Nat.mod_lt _ (by decide)⟩

/-- Tile `i` of the right operand turned into rows of the transposed operand. -/
abbrev tileT (w : Vec F S1x512x2048 .f32) : FVec F S2048x512 .bf16 := k0_pay3 w

/-- Tile `i` taken in, transposed and stored. -/
def tileIn (i : Fin 4) (w : Vec F S1x512x2048 .f32) : Code F PUnit := do
  let _ ← loadWq i
  storeWq i (k0_pay3 w)

/-- The semaphore of the first barrier. -/
abbrev barrierSem : Fin sig.nSem := (SemArray.scalar (sig.barrier 0 rfl) : Sems sig S_).sem
/-- The semaphore of the last barrier. -/
abbrev exitSem : Fin sig.nSem := (cc0_scoped0 : Sems sig S_).sem

/-- The three peers greeted through a semaphore, and their greetings awaited. -/
def greet (c : Dev nD) (s : Fin sig.nSem) (p₀ p₁ p₂ : Dev nD → Dev nD) : Code F PUnit := do
  semSignalWord (p₀ c) s 1#32
  semSignalWord (p₁ c) s 1#32
  semSignalWord (p₂ c) s 1#32
  semWaitWord s 3#32

/-- The first chunk's partial product, computed tile by tile while the right operand arrives. -/
def prologue (c : Dev nD) : Code F PUnit := do
  dyStart 0 0
  wStart (quarter c) 0 0
  wStart (quarter c) 1 1
  greet c barrierSem zPeer xPeer yPeer
  dyWait 0 0
  dyStart 1 1
  let a ← loadDy 0
  wWait (quarter c) 0 0
  let w₀ ← loadW 0
  tileIn 0 w₀
  wStart (quarter c) 2 0
  wWait (quarter c) 1 1
  let w₁ ← loadW 1
  tileIn 1 w₁
  wStart (quarter c) 3 1
  wWait (quarter c) 2 0
  let w₂ ← loadW 0
  tileIn 2 w₂
  wWait (quarter c) 3 1
  let w₃ ← loadW 1
  tileIn 3 w₃
  let _ ← load16 zsendM 0
  store16 zsendM (Memref.isWhole_whole _) 0
    (k0_pay12 (k0_pay1 a) (k0_pay7 (k0_pay1 a) (k0_pay4 a w₀) w₁) (k0_pay8 w₂) w₃)
  send c 0 0

/-- The next chunk's rows called in, if there is a next chunk. -/
def dyNext (k : Fin 16) : Code F PUnit :=
  if h : k.val + 1 < 16 then dyStart ⟨k.val + 1, h⟩ (par (k.val + 1)) else pure ⟨⟩

/-- The partial product of chunk `k`, sent along `z`. -/
def stageA (c : Dev nD) (k : Fin 16) : Code F PUnit := do
  dyNext k
  dyWait k (par k.val)
  let a ← loadDy (par k.val)
  let w ← loadWqAll
  let _ ← load16 zsendM k
  store16 zsendM (Memref.isWhole_whole _) k (k0_pay13 a w)
  send c k 0

/-- The two halves of chunk `k` added, the sum sent to the first peer. -/
def stageB (c : Dev nD) (k : Fin 16) : Code F PUnit := do
  waitSend k 0
  waitRecv k 0
  let a ← load16 zsendM k
  let b ← load16 zrecvM k
  let _ ← load16 sumM k
  store16 sumM (Memref.isWhole_whole _) k (k0_pay92 (k0_pay91 a b))
  send c k 1

/-- The first peer's sum received, both sums sent to the second peer. -/
def stageC (c : Dev nD) (k : Fin 16) : Code F PUnit := do
  waitSend k 1
  waitRecv k 1
  send c k 2
  send c k 3

/-- The messages of the second exchange awaited. -/
def stageD₁ (k : Fin 16) : Code F PUnit := do
  waitSend k 2
  waitRecv k 2
  waitSend k 3
  waitRecv k 3

/-- Quarter `j` of the staged output. -/
def putQuarter (s : Fin 2) (j : Fin 4) (w : FVec F S1x128x512 .f32) : Code F PUnit := do
  let _ ← loadOut s j
  storeOut s j w

/-- One received tile as a quarter of the output. -/
abbrev quarter16 (v : Vec F S1x128x512 .bf16) : FVec F S1x128x512 .f32 :=
  shapeCast S1x128x512 (extf .f32 (shapeCast S128x512 v shapeCasts_S1x128x512_S128x512) bitsLt_bf16_f32) shapeCasts_S128x512_S1x128x512
/-- A landed tile, widened to the result's format. -/
abbrev quarter32 (v : Vec F S1x1x128x512 .bf16) : FVec F S1x128x512 .f32 :=
  shapeCast S1x128x512 (extf .f32 (shapeCast S128x512 v shapeCasts_S1x1x128x512_S128x512) bitsLt_bf16_f32) shapeCasts_S128x512_S1x128x512

/-- Quarter `j` of the output's rows, on a device of quarter `q`: its own sum, or the one that came from the neighbour
along `y`, along `x`, or from the opposite corner. -/
def pick (q j : Fin 4) (own xv yv dg : FVec F S1x128x512 .f32) : FVec F S1x128x512 .f32 :=
  (![own, yv, xv, dg] : Fin 4 → FVec F S1x128x512 .f32) ⟨q.val ^^^ j.val, by revert q j; decide⟩

/-- The four quarters assembled and copied out. -/
def stageD₂ (c : Dev nD) (k : Fin 16) : Code F PUnit := do
  let own ← load16 sumM k
  let xv ← load32 xrecvM k 0
  let yv ← load32 yrecvM k 0
  let dg ← load32 (secondM k) k 1
  putQuarter (par k.val) 0 (pick (quarter c) 0 (quarter16 own) (quarter32 xv) (quarter32 yv) (quarter32 dg))
  putQuarter (par k.val) 1 (pick (quarter c) 1 (quarter16 own) (quarter32 xv) (quarter32 yv) (quarter32 dg))
  putQuarter (par k.val) 2 (pick (quarter c) 2 (quarter16 own) (quarter32 xv) (quarter32 yv) (quarter32 dg))
  putQuarter (par k.val) 3 (pick (quarter c) 3 (quarter16 own) (quarter32 xv) (quarter32 yv) (quarter32 dg))
  outStart k (par k.val)

/-- The staging slot of chunk `k` free again: the copy out of two chunks earlier has ended. -/
def outFree (k : Fin 16) : Code F PUnit :=
  if h : 2 ≤ k.val then outWait ⟨k.val - 2, by omega⟩ (par k.val) else pure ⟨⟩

/-- A chunk's last stage: the second hop arrives, the four quarters are put into the slot, and the copy to the result starts. -/
def stageD (c : Dev nD) (k : Fin 16) : Code F PUnit := do
  stageD₁ k
  outFree k
  stageD₂ c k

/-- A stage at step `t`, `d` steps after the chunk's own, where there is such a chunk. -/
def at_ (f : Fin 16 → Code F PUnit) (d t : ℕ) : Code F PUnit :=
  if h : d ≤ t ∧ t - d < 16 then f ⟨t - d, h.2⟩ else pure ⟨⟩

/-- One step of the software pipeline. -/
def step (c : Dev nD) (t : ℕ) : Code F PUnit := do
  at_ (stageA c) 0 t
  at_ (stageB c) 2 t
  at_ (stageC c) 4 t
  at_ (stageD c) 6 t

/-- The first `n` steps after the prologue. -/
def steps (c : Dev nD) : ℕ → Code F PUnit
  | 0 => pure ⟨⟩
  | n + 1 => do
    steps c n
    step c (n + 1)

/-- The last copies out awaited, and the peers met. -/
def epilogue (c : Dev nD) : Code F PUnit := do
  outWait 14 0
  outWait 15 1
  greet c exitSem zPeer xPeer yPeer

/-- The whole program of device `c`. -/
def program (c : Dev nD) : Code F PUnit := do
  prologue c
  steps c 21
  epilogue c

end Cert.KernelProof
-- ==== Proof.Contents.lean ====
/-
# What the buffers hold

The contents the program of one device computes, as functions of the memory at launch: the blocks of
the two operands it reads, the transposed right operand, the partial product of a row chunk, the sum of
the two halves of the contraction, the four messages of a chunk and the rows of the result.
-/
module

public import proofs.«01_k».proof.Proof.Stages
public import Idealize.ShloMosaic.Lib.ValueIdxCore

@[expose] public section

noncomputable section

namespace Cert.KernelProof

open Cert.KernelIdeal Cert.KernelIdeal.Gen
open Idealize.ShloMosaic Idealize.ShloMosaic.TcCoe Idealize.SL.Sem Idealize.ShloMosaic.ValueIdx

variable {F : FTy → Type} [FloatOps F]

/-! ## A tile read or written with leading axes of extent one -/

/-- A block of rows with a leading axis has as many elements. -/
theorem casts_dy : S128x8192.ShapeCasts S1x128x8192 := by decide
/-- So has a tile of the right operand, -/
theorem casts_w : S512x2048.ShapeCasts S1x512x2048 := by decide
/-- and a chunk with two leading axes. -/
theorem casts_32 : S128x512.ShapeCasts S1x1x128x512 := by decide

/-- A tile with one leading axis. -/
abbrev lift16 {α : Type} (w : S128x512.Idx → α) : S1x128x512.Idx → α := shapeCast S1x128x512 w shapeCasts_S128x512_S1x128x512
/-- A tile with two leading axes. -/
abbrev lift32 {α : Type} (w : S128x512.Idx → α) : S1x1x128x512.Idx → α := shapeCast S1x1x128x512 w casts_32
/-- A tile without its leading axis. -/
abbrev drop16 {α : Type} (w : S1x128x512.Idx → α) : S128x512.Idx → α := shapeCast S128x512 w shapeCasts_S1x128x512_S128x512
/-- A block of rows with one leading axis. -/
abbrev liftDy {α : Type} (w : S128x8192.Idx → α) : S1x128x8192.Idx → α := shapeCast S1x128x8192 w casts_dy
/-- A tile of the right operand with one leading axis. -/
abbrev liftW {α : Type} (w : S512x2048.Idx → α) : S1x512x2048.Idx → α := shapeCast S1x512x2048 w casts_w

/-! ## The contents -/

section Contents

variable (m : (ℓ : Loc nD τ sig) → Buf (Elt F) ℓ)

/-- The rows of chunk `k` of device `c`'s block of the left operand. -/
def dyAt (c : Dev nD) (k : Fin 16) : Vec F S128x8192 .f32 :=
  (dyRows k).view.read (Elt F) (m (c.tc.loc main_arg0))

/-- Tile `i` of the rows of device `c`'s quarter of its block of the right operand. -/
def wAt (c : Dev nD) (i : Fin 4) : Vec F S512x2048 .f32 :=
  (wTile (quarter c) i).view.read (Elt F) (m (c.tc.loc main_arg1))

/-- Tile `i` rounded and transposed. -/
def wTrans (c : Dev nD) (i : Fin 4) : FVec F S2048x512 .bf16 := k0_pay3 (liftW (wAt m c i))

/-- The rounded and transposed right operand of device `c`, its four tiles one above the other. -/
def wqAt (c : Dev nD) : Vec F S8192x512 .bf16 := fun x =>
  wTrans m c ⟨(x 0).val / 2048, Nat.div_lt_of_lt_mul (x 0).isLt⟩ (ix2 ⟨(x 0).val % 2048, Nat.mod_lt _ (by decide)⟩ (x 1))

/-- The first chunk's partial product, accumulated tile by tile. -/
def firstPart (c : Dev nD) : FVec F S1x128x512 .bf16 :=
  k0_pay12 (k0_pay1 (liftDy (dyAt m c 0)))
    (k0_pay7 (k0_pay1 (liftDy (dyAt m c 0))) (k0_pay4 (liftDy (dyAt m c 0)) (liftW (wAt m c 0))) (liftW (wAt m c 1)))
    (k0_pay8 (liftW (wAt m c 2))) (liftW (wAt m c 3))

/-- The partial product of chunk `k` on device `c`: over the device's half of the contraction. -/
def zpart (c : Dev nD) (k : Fin 16) : Vec F S128x512 .bf16 :=
  drop16 (if k = 0 then firstPart m c else k0_pay13 (liftDy (dyAt m c k)) (wqAt m c))

/-- The sum of the two halves. -/
def zsum (c : Dev nD) (k : Fin 16) : Vec F S128x512 .bf16 :=
  k0_pay91 (lift16 (zpart m c k)) (lift16 (zpart m (zPeer c) k))

/-- What device `c` sends as message `i` of chunk `k`. -/
def content (k : Fin 16) (i : Fin 4) (c : Dev nD) : Vec F S128x512 .bf16 :=
  (![zpart m c k, zsum m c k, zsum m c k, zsum m (firstPeer k c) k] : Fin 4 → Vec F S128x512 .bf16) i

/-- The device that computes column quarter `j`, in `c`'s plane of the mesh. -/
def corner (c : Dev nD) (j : Fin 4) : Dev nD := ⟨2 * j.val + c.val % 2, by have := j.isLt; simp only [nD]; omega⟩

/-- Quarter `j` of the columns of chunk `k` of the result. -/
def quarterAt (c : Dev nD) (k : Fin 16) (j : Fin 4) : FVec F S128x512 .f32 := extf .f32 (zsum m (corner c j) k) bitsLt_bf16_f32

/-- The rows of chunk `k` of the result on device `c`. -/
def rowsAt (c : Dev nD) (k : Fin 16) : Vec F S128x2048 .f32 := fun x =>
  quarterAt m c k ⟨(x 1).val / 512, Nat.div_lt_of_lt_mul (x 1).isLt⟩ (ix2 (x 0) ⟨(x 1).val % 512, Nat.mod_lt _ (by decide)⟩)

/-- The result on device `c`. -/
def resultAt (c : Dev nD) : Vec F S2048x2048 .f32 := fun x =>
  rowsAt m c ⟨(x 0).val / 128, Nat.div_lt_of_lt_mul (x 0).isLt⟩ (ix2 ⟨(x 0).val % 128, Nat.mod_lt _ (by decide)⟩ (x 1))

end Contents

/-! ## The mesh's neighbours -/

/-- The `z` neighbour's `z` neighbour is the device itself; -/
theorem zPeer_zPeer (c : Dev nD) : zPeer (zPeer c) = c := by revert c; decide
/-- the same along `x` -/
theorem xPeer_xPeer (c : Dev nD) : xPeer (xPeer c) = c := by revert c; decide
/-- and along `y`, -/
theorem yPeer_yPeer (c : Dev nD) : yPeer (yPeer c) = c := by revert c; decide

/-- on the first hop -/
theorem firstPeer_firstPeer (k : Fin 16) (c : Dev nD) : firstPeer k (firstPeer k c) = c := by
  unfold firstPeer; split <;> simp only [xPeer_xPeer, yPeer_yPeer]
/-- and on the second. -/
theorem secondPeer_secondPeer (k : Fin 16) (c : Dev nD) : secondPeer k (secondPeer k c) = c := by
  unfold secondPeer; split <;> simp only [xPeer_xPeer, yPeer_yPeer]

/-- Each message goes between two devices that send it to each other. -/
theorem target_target (k : Fin 16) (i : Fin 4) (c : Dev nD) : target k i (target k i c) = c := by
  fin_cases i
  · exact zPeer_zPeer c
  · exact firstPeer_firstPeer k c
  · exact secondPeer_secondPeer k c
  · exact secondPeer_secondPeer k c

end Cert.KernelProof
-- ==== Proof.Protocol.lean ====
/-
# The protocol between the devices

Every device sends each peer its messages through a pair of semaphores of their own, used once: the
sender's, raised when the message has left, and the receiver's, raised when it has arrived. Two more
semaphores are met by all three peers: the barrier at the start, where a device lends its landing
buffers to the peers that write them, and one at the end.

Each of these semaphores is a cell of one round. What a device still owes is the messages and greetings
it has not yet sent, listed in the order of the program; a wait names only cells paid before those.
-/
module

public import proofs.«01_k».proof.Proof.Contents
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Memref
public import Idealize.ShloMosaic.Lib.Tactic

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cells -/

/-- A semaphore of the protocol: of message `i` of chunk `k`, the sender's (`false`) or the receiver's (`true`); or the
one met at the start (`false`) or at the end (`true`). -/
abbrev Key : Type := (Fin 16 × Fin 4 × Bool) ⊕ Bool

/-- The number of the send semaphore of a message. -/
def sendNum (k : Fin 16) : Fin 4 → ℕ :=
  ![4 + k.val, (if xFirst k then 36 else 100) + 2 * k.val, (if xFirst k then 100 else 36) + 2 * k.val,
    (if xFirst k then 100 else 36) + 2 * k.val + 1]
/-- The number of the receive semaphore of a message. -/
def recvNum (k : Fin 16) : Fin 4 → ℕ :=
  ![20 + k.val, (if xFirst k then 68 else 132) + 2 * k.val, (if xFirst k then 132 else 68) + 2 * k.val,
    (if xFirst k then 132 else 68) + 2 * k.val + 1]

/-- The number of a message's semaphore at its sender. -/
theorem sendSem_val (k : Fin 16) (i : Fin 4) : (sendSem k i).val = sendNum k i := by revert k i; decide
/-- The number of a message's semaphore at its receiver. -/
theorem recvSem_val (k : Fin 16) (i : Fin 4) : (recvSem k i).val = recvNum k i := by revert k i; decide

/-- The semaphore of each shared cell. -/
def ksem : Key → SemLoc sig
  | .inl (k, i, false) => .dma (sendSem k i)
  | .inl (k, i, true) => .dma (recvSem k i)
  | .inr false => .reg barrierSem
  | .inr true => .reg exitSem

/-- A number for every semaphore of the protocol. -/
def keyNum : Key → ℕ
  | .inl (k, i, false) => sendNum k i
  | .inl (k, i, true) => recvNum k i
  | .inr false => 1000
  | .inr true => 1001

set_option maxRecDepth 4000 in
/-- Different cells have different numbers. -/
theorem keyNum_injective : Function.Injective keyNum := by
  rintro (⟨k, i, b⟩ | b) (⟨k', i', b'⟩ | b') h
  · have hk := k.isLt; have hk' := k'.isLt
    have aux : (Sum.inl (k, i, b) : Key) = .inl (k', i', b') ↔ k.val = k'.val ∧ i = i' ∧ b = b' := by
      simp [Fin.ext_iff]
    rw [aux]
    cases b <;> cases b' <;> fin_cases i <;> fin_cases i' <;>
      simp [keyNum, sendNum, recvNum, xFirst] at h ⊢ <;> (repeat' split at h) <;> omega
  · cases b <;> cases b' <;> fin_cases i <;> simp [keyNum, sendNum, recvNum, xFirst] at h <;> (repeat' split at h) <;> omega
  · cases b <;> cases b' <;> fin_cases i' <;> simp [keyNum, sendNum, recvNum, xFirst] at h <;> (repeat' split at h) <;> omega
  · cases b <;> cases b' <;> simp [keyNum] at h ⊢

/-- The number of a semaphore, the regular ones above the others. -/
def semNum : SemLoc sig → ℕ
  | .dma s => s.val
  | .reg s => if s = barrierSem then 1000 else 1001

/-- The two barriers are on different semaphores. -/
theorem exit_ne_barrier : exitSem ≠ barrierSem := by decide

/-- The number of a shared cell's semaphore. -/
theorem semNum_ksem (x : Key) : semNum (ksem x) = keyNum x := by
  rcases x with ⟨k, i, b⟩ | b
  · cases b
    · exact sendSem_val k i
    · exact recvSem_val k i
  · cases b
    · show (if barrierSem = barrierSem then 1000 else 1001) = 1000
      exact if_pos rfl
    · show (if exitSem = barrierSem then 1000 else 1001) = 1001
      exact if_neg exit_ne_barrier

/-- Different cells have different semaphores, -/
theorem ksem_injective : Function.Injective ksem := fun x y h =>
  keyNum_injective (by rw [← semNum_ksem, ← semNum_ksem, h])

/-- The protocol's cell at device `c`. -/
def kcell (ck : Dev nD × Key) : GSem nD τ sig := ((ck.1.tc : Thread nD τ), ksem ck.2)

/-- on every device. -/
theorem kcell_injective : Function.Injective kcell := by
  rintro ⟨c, x⟩ ⟨c', x'⟩ h
  have h₁ : (c.tc : Thread nD τ) = c'.tc := congrArg Prod.fst h
  have h₂ := ksem_injective (congrArg Prod.snd h : ksem x = ksem x')
  have h₃ : c = c' := (Prod.mk.inj h₁).1
  have h₄ : x = x' := h₂
  rw [h₃, h₄]

/-- The cell that a message pays at its sender. -/
abbrev sendCell (c : Dev nD) (k : Fin 16) (i : Fin 4) : GSem nD τ sig := ((c.tc : Thread nD τ), .dma (sendSem k i))
/-- The cell that a message pays at its receiver. -/
abbrev recvCell (c : Dev nD) (k : Fin 16) (i : Fin 4) : GSem nD τ sig := ((c.tc : Thread nD τ), .dma (recvSem k i))
/-- The semaphore of a barrier: the first one's or the last one's. -/
abbrev meetSem (b : Bool) : Fin sig.nSem := if b then exitSem else barrierSem
/-- The cell of a barrier on a device. -/
abbrev meetCell (c : Dev nD) (b : Bool) : GSem nD τ sig := ((c.tc : Thread nD τ), .reg (meetSem b))

/-- A sender's cell among the shared ones. -/
theorem kcell_send (c : Dev nD) (k : Fin 16) (i : Fin 4) : kcell (c, .inl (k, i, false)) = sendCell c k i := rfl
/-- A receiver's cell among the shared ones. -/
theorem kcell_recv (c : Dev nD) (k : Fin 16) (i : Fin 4) : kcell (c, .inl (k, i, true)) = recvCell c k i := rfl
/-- A barrier's cell among the shared ones. -/
theorem kcell_meet (c : Dev nD) (b : Bool) : kcell (c, .inr b) = meetCell c b := by cases b <;> rfl

/-- The three peers of a device, numbered. -/
def peer : Fin 3 → Dev nD → Dev nD := ![zPeer, xPeer, yPeer]

/-- A neighbour's neighbour along the same axis is the device itself. -/
theorem peer_peer (d : Fin 3) (c : Dev nD) : peer d (peer d c) = c := by
  fin_cases d
  · exact zPeer_zPeer c
  · exact xPeer_xPeer c
  · exact yPeer_yPeer c

/-- The number of the peer a message goes to. -/
def dir (k : Fin 16) : Fin 4 → Fin 3 :=
  ![0, if xFirst k then 1 else 2, if xFirst k then 2 else 1, if xFirst k then 2 else 1]

/-- A message goes to the neighbour along its axis. -/
theorem target_eq (k : Fin 16) (i : Fin 4) (c : Dev nD) : target k i c = peer (dir k i) c := by
  revert k i c; decide

/-! ## The algebra of the proof -/

/-- The ghost state of the shared cells. -/
abbrev UB : Type := URounds (GSem nD τ sig) (Fin 3)
/-- The ghost state of the whole proof. -/
abbrev UU : Type := UR sig nD τ × (UB × Counters)

local notation "𝕄" => MT nD τ sig Unit (Elt F) ℕ UU ℕ

/-- The part of it that the launch uses, -/
abbrev EP : Emb (UR sig nD τ) (MT nD τ sig Unit (Elt F) ℕ UU ℕ) := embL
/-- The rounds' component of the algebra. -/
def ER : Emb UB (MT nD τ sig Unit (Elt F) ℕ UU ℕ) := (Emb.inl : Emb UB (UB × Counters)).trans embR
/-- the part of the shared cells, -/
instance ER_landsIn : (ER : Emb UB 𝕄).LandsIn (upEmb : UEmb _ 𝕄) := by unfold ER; infer_instance
/-- and that of the local copies. -/
abbrev EC : UEmb Counters (MT nD τ sig Unit (Elt F) ℕ UU ℕ) := countersEmb

/-! ## The schedule -/

/-- The credit of one message. -/
def credit : ℕ := (slot16 zsendM 0).view.dmaCredit

/-- A message is of a positive amount. -/
theorem credit_pos : 0 < credit := View.dmaCredit_pos _ (by decide)
/-- The amount is the same wherever a message lands -/
theorem dst_credit (k : Fin 16) (i : Fin 4) : (dstOf k i).view.dmaCredit = credit := by
  fin_cases i
  · rfl
  · rfl
  · rfl
  · rfl
/-- and wherever it comes from. -/
theorem src_credit (k : Fin 16) (i : Fin 4) : (srcOf k i).view.dmaCredit = credit := by
  fin_cases i
  · rfl
  · rfl
  · rfl
  · rfl

/-- A tile of a device's memory at any contents. -/
def anyAt (c : Dev nD) {sp : Space} {s : Shape} {e : EltTy} (M : Memref sig .tc sp s e) : sProp 𝕄 :=
  iprop(∃ f : Buf (Elt F) (M.view.loc (c.tc : Thread nD τ)), M.view.loc (c.tc : Thread nD τ) ↦[M.view.set]{fullShare} f)

/-- A tile of a device's memory owned, at contents `X`. -/
abbrev held (c : Dev nD) {sp : Space} {s : Shape} {e : EltTy} (M : Memref sig .tc sp s e) (X : s.Idx → Elt F e) : sProp 𝕄 :=
  owns (c.tc : Thread nD τ) M fullShare X

omit [FloatOps F] in
/-- The right to a buffer can be handed over. -/
instance anyAt_storable (c : Dev nD) {sp : Space} {s : Shape} {e : EltTy} (M : Memref sig .tc sp s e) :
    BI.Storable (upEmb : UEmb _ 𝕄) (anyAt (F := F) c M) := by unfold anyAt; infer_instance

omit [FloatOps F] in
/-- A buffer with known contents is a buffer. -/
theorem any_of_held (c : Dev nD) {sp : Space} {s : Shape} {e : EltTy} (M : Memref sig .tc sp s e) (X : s.Idx → Elt F e) :
    held c M X ⊢ anyAt (F := F) c M := by
  unfold held owns anyAt
  iintro ⟨%f, -, H⟩
  iexists f; iexact H

/-- What peer `d` of device `c` lends it at the start: the tiles `c`'s messages to it are written to. -/
def lent (c : Dev nD) (d : Fin 3) : sProp 𝕄 :=
  bigSep (Finset.univ : Finset (Fin 16 × Fin 4)) fun p =>
    if dir p.1 p.2 = d then anyAt (F := F) (peer d c) (dstOf p.1 p.2) else iprop(emp)

omit [FloatOps F] in
/-- What a barrier's signal lends can be handed over. -/
instance lent_storable (c : Dev nD) (d : Fin 3) : BI.Storable (upEmb : UEmb _ 𝕄) (lent (F := F) c d) := by
  unfold lent
  have h : ∀ p : Fin 16 × Fin 4, BI.Storable (upEmb : UEmb _ 𝕄)
      (if dir p.1 p.2 = d then anyAt (F := F) (peer d c) (dstOf p.1 p.2) else iprop(emp)) := fun p => by
    split <;> infer_instance
  infer_instance

section Schedule

variable (m : (ℓ : Loc nD τ sig) → Buf (Elt F) ℓ)

/-- What a duty of a cell hands the cell's owner. -/
def pay : Dev nD × Key → Fin 3 → sProp 𝕄
  | (c, .inl (k, i, false)), _ => held c (srcOf k i) (content m k i c)
  | (c, .inl (k, i, true)), _ => held c (dstOf k i) (content m k i (target k i c))
  | (c, .inr false), d => lent c d
  | (_, .inr true), _ => iprop(emp)

/-- Whatever a payment carries can be handed over. -/
instance pay_storable (ck : Dev nD × Key) (d : Fin 3) : BI.Storable (upEmb : UEmb _ 𝕄) (pay (F := F) m ck d) := by
  rcases ck with ⟨c, ⟨k, i, _ | _⟩ | _ | _⟩ <;> unfold pay <;> infer_instance

/-- The contributions a cell takes in its one round. -/
def dutiesOf : Key → Finset (Fin 3)
  | .inl _ => {0}
  | .inr _ => Finset.univ
/-- The units of one contribution. -/
def unitsOf : Key → ℕ
  | .inl _ => credit
  | .inr _ => 1

/-- Every payment is of a positive amount. -/
theorem unitsOf_pos (x : Key) : 0 < unitsOf x := by
  rcases x with _ | _
  · exact credit_pos
  · exact Nat.one_pos

/-- The rounds of every cell: one, of its duties. -/
def sched : Rounds.Schedule (GSem nD τ sig) (Fin 3) 𝕄 where
  duties g r := if r = 0 then Function.extend kcell (fun ck => dutiesOf ck.2) (fun _ => ∅) g else ∅
  unitless _ := False
  amount g _ _ := Function.extend kcell (fun ck => unitsOf ck.2) (fun _ => 1) g
  payload g _ d := Function.extend kcell (fun ck => pay m ck) (fun _ _ => iprop(emp)) g d
  amount_pos g r d _ := by
    by_cases h : ∃ ck, kcell ck = g
    · obtain ⟨ck, rfl⟩ := h
      rw [kcell_injective.extend_apply]; exact unitsOf_pos _
    · rw [Function.extend_apply' _ _ _ h]; exact Nat.one_pos

/-- Every payload of the schedule can be handed over. -/
instance sched_storable (g : GSem nD τ sig) (r : ℕ) (d : Fin 3) :
    BI.Storable (upEmb : UEmb _ 𝕄) ((sched (F := F) m).payload g r d) := by
  show BI.Storable upEmb (Function.extend kcell (fun ck => pay m ck) (fun _ _ => iprop(emp)) g d)
  by_cases h : ∃ ck, kcell ck = g
  · obtain ⟨ck, rfl⟩ := h
    rw [kcell_injective.extend_apply]; infer_instance
  · rw [Function.extend_apply' _ _ _ h]; infer_instance

/-- Who pays a shared cell. -/
theorem duties_eq (ck : Dev nD × Key) : (sched (F := F) m).duties (kcell ck) 0 = dutiesOf ck.2 := by
  dsimp only [sched]
  rw [if_pos rfl, kcell_injective.extend_apply]
/-- Each cell is paid in one round only. -/
theorem duties_later (g : GSem nD τ sig) : ∀ r, 1 ≤ r → (sched (F := F) m).duties g r = ∅ := fun r hr => by
  dsimp only [sched]
  rw [if_neg (by omega)]
/-- How much each payment to a shared cell is. -/
theorem amount_eq (ck : Dev nD × Key) (d : Fin 3) : (sched (F := F) m).amount (kcell ck) 0 d = unitsOf ck.2 := by
  dsimp only [sched]
  rw [kcell_injective.extend_apply]
/-- What each payment to a shared cell carries. -/
theorem payload_eq (ck : Dev nD × Key) (d : Fin 3) : (sched (F := F) m).payload (kcell ck) 0 d = pay m ck d := by
  dsimp only [sched]
  rw [kcell_injective.extend_apply]

/-- What a cell is paid in all. -/
theorem expect_eq (ck : Dev nD × Key) : (sched (F := F) m).expect (kcell ck) 0 = (dutiesOf ck.2).card * unitsOf ck.2 := by
  unfold Schedule.expect Schedule.amountOf
  rw [duties_eq, Finset.sum_congr rfl fun d _ => amount_eq m ck d, Finset.sum_const, smul_eq_mul]

end Schedule

/-! ## What a device owes -/

/-- What a device sends: a message, or a greeting to a peer at the start or at the end. -/
abbrev Debt : Type := (Fin 16 × Fin 4) ⊕ (Bool × Fin 3)

/-- The place in the program's order at which it is sent. -/
def time : Debt → ℕ
  | .inl (k, i) => (![4 * k.val + 3, 4 * k.val + 12, 4 * k.val + 21, 4 * k.val + 22] : Fin 4 → ℕ) i
  | .inr (false, d) => d.val
  | .inr (true, d) => 100 + d.val

/-- No two debts are paid at the same time. -/
theorem time_injective : Function.Injective time := by
  rintro (⟨k, i⟩ | ⟨b, d⟩) (⟨k', i'⟩ | ⟨b', d'⟩) h
  · have hk := k.isLt; have hk' := k'.isLt
    have aux : (Sum.inl (k, i) : Debt) = .inl (k', i') ↔ k.val = k'.val ∧ i = i' := by simp [Fin.ext_iff]
    rw [aux]
    fin_cases i <;> fin_cases i' <;> simp [time] at h ⊢ <;> omega
  · have hk := k.isLt; have hd := d'.isLt
    cases b' <;> fin_cases i <;> simp [time] at h <;> omega
  · have hk := k'.isLt; have hd := d.isLt
    cases b <;> fin_cases i' <;> simp [time] at h <;> omega
  · have hd := d.isLt; have hd' := d'.isLt
    have aux : (Sum.inr (b, d) : Debt) = .inr (b', d') ↔ b = b' ∧ d.val = d'.val := by simp [Fin.ext_iff]
    rw [aux]
    cases b <;> cases b' <;> simp [time] at h ⊢ <;> omega

/-- The cell a device's debt is to, as a device and a key. -/
def creditor (c : Dev nD) : Debt → Dev nD × Key
  | .inl (k, i) => (target k i c, .inl (k, i, true))
  | .inr (b, d) => (peer d c, .inr b)

/-- One debt. -/
def debt (c : Dev nD) (x : Debt) : CellTallies nD τ sig Unit := tallyAt (kcell (creditor c x)) () (unitsOf (creditor c x).2)

/-- What device `c` owes at place `n` of the program: everything it has not sent. -/
def owed (c : Dev nD) (n : ℕ) : CellTallies nD τ sig Unit := ∑ x ∈ Finset.univ.filter (fun x => n ≤ time x), debt c x

/-- Paying the debt that is due leaves the later ones. -/
theorem owed_send (c : Dev nD) (n : ℕ) (x : Debt) (hx : time x = n) : owed c n = owed c (n + 1) + debt c x := by
  unfold owed
  have hs : (Finset.univ.filter fun x => n ≤ time x) = insert x (Finset.univ.filter fun x => n + 1 ≤ time x) := by
    ext y
    simp only [Finset.mem_filter, Finset.mem_univ, true_and, Finset.mem_insert]
    constructor
    · intro h
      by_cases hy : time y = n
      · exact .inl (time_injective (hy.trans hx.symm))
      · exact .inr (by omega)
    · rintro (rfl | h)
      · exact hx.ge
      · omega
  rw [hs, Finset.sum_insert (by simp [hx]), add_comm]

/-- When nothing is due, time passes. -/
theorem owed_skip (c : Dev nD) (n : ℕ) (h : ∀ x, time x ≠ n) : owed c n = owed c (n + 1) := by
  unfold owed
  refine Finset.sum_congr (Finset.filter_congr fun x _ => ?_) fun _ _ => rfl
  have := h x; omega

/-- In the end nothing is owed. -/
theorem owed_end (c : Dev nD) : owed c 103 = 0 := by
  unfold owed
  refine Finset.sum_eq_zero fun x hx => ?_
  rw [Finset.mem_filter] at hx
  exfalso
  revert hx
  rcases x with ⟨k, i⟩ | ⟨b, d⟩
  · have := k.isLt; fin_cases i <;> simp [time] <;> omega
  · have := d.isLt; cases b <;> simp [time] <;> omega

/-! ## Levels -/

/-- The level of a cell: the place of the program its last contribution is sent at. -/
def klev : Key → ℕ
  | .inl (k, i, true) => time (.inl (k, i))
  | .inl (_, _, false) => 0
  | .inr false => 2
  | .inr true => 102

/-- The cells that a device may wait on. -/
def L (g : GSem nD τ sig) : Finset Unit := if g.1.2 = .tc then {()} else ∅
/-- The level of a cell. -/
def lv (g : GSem nD τ sig) (_ : Unit) : ℕ := Function.extend kcell (fun ck => klev ck.2) (fun _ => 0) g

/-- Only the main thread of a device has such cells. -/
theorem L_of_ne (g : GSem nD τ sig) (h : g.1.2 ≠ .tc) : L g = ∅ := if_neg h
/-- That thread has all of them. -/
theorem L_tc (c : Dev nD) (sm : SemLoc sig) : L ((c.tc : Thread nD τ), sm) = {()} := if_pos rfl
/-- The level of a shared cell. -/
theorem lv_kcell (ck : Dev nD × Key) : lv (kcell ck) () = klev ck.2 := kcell_injective.extend_apply _ _ _

/-- A debt is paid no later than the level of the cell it pays. -/
theorem time_le_level (c : Dev nD) (x : Debt) : time x ≤ klev (creditor c x).2 := by
  rcases x with ⟨k, i⟩ | ⟨b, d⟩
  · exact le_rfl
  · have := d.isLt; cases b <;> simp [time, klev, creditor] <;> omega

/-- What is owed to a cell is one of the debts. -/
theorem owed_pos {c : Dev nD} {n : ℕ} {g : GSem nD τ sig} {u : Unit} (h : 0 < owed c n g u) :
    ∃ x, n ≤ time x ∧ g = kcell (creditor c x) := by
  by_contra hn
  push Not at hn
  have : owed c n g u = 0 := by
    unfold owed
    rw [Finset.sum_apply, Finsupp.finset_sum_apply]
    refine Finset.sum_eq_zero fun x hx => ?_
    unfold debt
    rw [tallyAt_apply, if_neg fun h' => hn x (Finset.mem_filter.mp hx).2 h'.1]
  omega

/-- A device may wait on a semaphore below what it still owes. -/
theorem mayWait (c : Dev nD) (n : ℕ) (sm : SemLoc sig) (h : lv ((c.tc : Thread nD τ), sm) () < n) :
    (levAts L lv : sProp 𝕄) ⊢ MayWait (c.tc : Thread nD τ) sm () (owed c n) :=
  MayOwe.of_cut (L := L) (lev := lv) (n - 1)
    (fun p hp => by rw [Finset.mem_singleton.mp hp, L_tc]; exact Finset.mem_singleton_self _)
    (fun g u hg => by
      obtain ⟨x, -, rfl⟩ := owed_pos hg
      exact (L_tc _ _).symm ▸ Finset.mem_singleton_self _)
    (fun p hp => by rw [Finset.mem_singleton.mp hp]; exact Nat.le_sub_one_of_lt h)
    (fun g u hg => by
      obtain ⟨x, hx, rfl⟩ := owed_pos hg
      have := time_le_level c x
      rw [lv_kcell]; omega)

end Cert.KernelProof
-- ==== Proof.Rules.lean ====
/-
# The rules of the single operations

A load, a store, a copy within a device and its wait, each stated for a tile of a buffer: what the tile
holds before and after.
-/
module

public import proofs.«01_k».proof.Proof.Protocol

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the kernel needs a measure. -/
abbrev 𝒱₀ : Variants := Variants.none

/-- Device `c` running a program to `Q`. -/
abbrev run (c : Dev nD) {α : Type} (p : Code F α) (Q : α → sProp 𝕄) : sProp 𝕄 :=
  wp frame (wpE (defs₀ (F := F)) 𝒱₀ (c.tc : Thread nD τ) none) Set.univ p Q

/-! ## Tiles with axes of extent one dropped -/

section Slot

variable {s s' : Shape} {e : EltTy} (M : Memref sig .tc .vmem s e) (r : Rect s) (hr : ∀ a, r.stride a = 1)
  (hs : r.shape.Squeezes s')

/-- The tile's contents as the load of it sees them. -/
def unsqueeze {α : Type} (w : s'.Idx → α) : r.shape.Idx → α := shapeCast r.shape w (hs.numel_eq.symm)

omit [FloatOps F] in
/-- A slot without its leading axis has the elements of the slot. -/
theorem slot_set : ((M.slice r hr).squeeze s' hs).view.set = (M.access r).set := View.set_reshape _ _

omit [FloatOps F] in
/-- What is read from a slot, with its leading axis, -/
theorem slot_read (f : M.view.ty.Contents (Elt F)) :
    (M.access r).read (Elt F) f = unsqueeze r hs (((M.slice r hr).squeeze s' hs).view.read (Elt F) f) := by
  funext j
  show (M.access r).read (Elt F) f j = (M.access r).read (Elt F) f (Shape.reshapeEquiv _ (Shape.reshapeEquiv _ j))
  rw [Shape.reshapeEquiv_reshapeEquiv, Shape.reshapeEquiv_self]

omit [FloatOps F] in
/-- and the other way round. -/
theorem slot_read' (f : M.view.ty.Contents (Elt F)) :
    ((M.slice r hr).squeeze s' hs).view.read (Elt F) f = shapeCast s' ((M.access r).read (Elt F) f) hs.numel_eq := rfl

/-- A load of a tile. -/
theorem run_load (c : Dev nD) {hl : M.view.LoadsAt r.toLoadRect} (w : s'.Idx → Elt F e) {Q : (r.shape.Idx → Elt F e) → sProp 𝕄} :
    held c ((M.slice r hr).squeeze s' hs) w
      ⊢ iprop((held c ((M.slice r hr).squeeze s' hs) w -∗ Q (unsqueeze r hs w))
        -∗ run c (Prog.lift (.load M r.toLoadRect hl)) Q) := by
  unfold held owns
  iintro ⟨%f, %hf, H⟩ Hk
  rw [slot_set]
  simp only [Prog.lift]
  iapply (wp_load_rect 𝒱₀ (c.tc : Thread nD τ) none Set.univ (m := M) (r := r) (S := (M.access r).set) (f := f) (Finset.Subset.refl _)) $$ H
  iintro H
  rw [wp_ret, slot_read M r hr hs, hf]
  imodintro
  iapply Hk
  iexists f
  isplitr; · ipureintro; exact hf
  iexact H

/-- A load of a tile at any contents, its value not read. -/
theorem run_load_any (c : Dev nD) {hl : M.view.LoadsAt r.toLoadRect} {Q : (r.shape.Idx → Elt F e) → sProp 𝕄} :
    anyAt c ((M.slice r hr).squeeze s' hs)
      ⊢ iprop((∀ v, anyAt c ((M.slice r hr).squeeze s' hs) -∗ Q v)
        -∗ run c (Prog.lift (.load M r.toLoadRect hl)) Q) := by
  unfold anyAt
  iintro ⟨%f, H⟩ Hk
  rw [slot_set]
  simp only [Prog.lift]
  iapply (wp_load_rect 𝒱₀ (c.tc : Thread nD τ) none Set.univ (m := M) (r := r) (S := (M.access r).set) (f := f) (Finset.Subset.refl _)) $$ H
  iintro H
  rw [wp_ret]
  imodintro
  iapply Hk
  iexists f
  iexact H

/-- A store over a whole tile. -/
theorem run_store (c : Dev nD) (w : r.shape.Idx → Elt F e) {hx : (M.access r).Stores Finset.univ}
    {hm : (Finset.univ : Finset r.shape.Idx) = Finset.univ ∨ ∀ a, r.stride a = 1} {Q : PUnit → sProp 𝕄} :
    anyAt c ((M.slice r hr).squeeze s' hs)
      ⊢ iprop((held c ((M.slice r hr).squeeze s' hs) (shapeCast s' w hs.numel_eq) -∗ Q ⟨⟩)
        -∗ run c (Prog.lift (.store M r w Finset.univ hx hm)) Q) := by
  unfold held owns anyAt
  iintro ⟨%f, H⟩ Hk
  rw [slot_set]
  simp only [Prog.lift]
  iapply (wp_store 𝒱₀ (c.tc : Thread nD τ) none Set.univ (m := M) (r := r) (S := (M.access r).set) (f := f)
    (by rw [View.setOn_univ])) $$ H
  iintro H
  rw [wp_ret]
  imodintro
  iapply Hk
  iexists (M.access r).write (Elt F) f w Finset.univ
  isplitr
  · ipureintro
    rw [slot_read' M r hr hs, View.read_write_univ]
  iexact H

end Slot

/-! ## Copies within a device -/

/-- What a device still owes at place `n`, whatever it has waited on. -/
def Owes (c : Dev nD) (n : ℕ) : sProp 𝕄 := iprop(∃ W, owes (c.tc : Thread nD τ) (owed c n) W)

section Copy

variable {s : Shape} {e : EltTy} {sp sp' : Space}

/-- A copy under way, that will have handed back `R`. -/
abbrev Flying (c : Dev nD) (sm : Fin sig.nDmaSem) (N : ℕ) (R : sProp 𝕄) : sProp 𝕄 :=
  Transfers.Flight EC (c.tc : Thread nD τ) (.dma sm) () N R

/-- A copy within the device started. -/
theorem run_start (c : Dev nD) (src : Memref sig .tc sp s e) (dst : Memref sig .tc sp' s e) (sm : Fin sig.nDmaSem) (N : ℕ)
    (hN : dst.view.dmaCredit = N) (hN0 : 0 < N)
    {hsrc : src.view.WordExact} {hdst : dst.view.WordExact} {hsem : DmaTarget.Typed sp (.dma sm) (DmaTarget.here dst : DmaTarget nD τ sig .tc sp' s e)}
    {q : PosShare TreeShare} {fs : Buf (Elt F) (src.view.loc (c.tc : Thread nD τ))} {Q : PUnit → sProp 𝕄} :
    iprop((src.view.loc (c.tc : Thread nD τ) ↦[src.view.set]{q} fs) ∗ anyAt c dst ∗ semVal ((c.tc : Thread nD τ), .dma sm) 0)
      ⊢ iprop((Flying c sm N iprop(held c dst (src.view.read (Elt F) fs) ∗ (src.view.loc (c.tc : Thread nD τ) ↦[src.view.set]{q} fs))
            -∗ Q ⟨⟩)
        -∗ run c (Prog.lift (.enqueueDma src (.here dst) (.dma sm) hsrc hdst hsem)) Q) := by
  unfold anyAt
  iintro ⟨Hs, ⟨%fd, Hd⟩, Hv⟩ Hk
  simp only [Prog.lift]
  iapply (Transfers.wp_dmaLocal EC 𝒱₀ (c.tc : Thread nD τ) none () N (show dst.view.amount (.dma sm) = N from hN) hN0 (Finset.Subset.refl _)) $$ [Hs Hd Hv]
  · isplitl [Hs]; · iexact Hs
    isplitl [Hd]; · iexact Hd
    iexact Hv
  iintro HF
  rw [wp_ret]
  imodintro
  iapply Hk
  iapply (Transfers.Flight_mono EC (c.tc : Thread nD τ) (sep_mono_left ?_)) $$ HF
  unfold held owns
  iintro H
  iexists dst.view.write (Elt F) fd (src.view.read (Elt F) fs) Finset.univ
  isplitr
  · ipureintro
    exact View.read_write_univ _ _
  iexact H

/-- Its wait. -/
theorem run_wait (c : Dev nD) {s' : Shape} {e' : EltTy} (src : Memref sig .tc sp' s' e') (dst : Memref sig .tc sp s e) (sm : Fin sig.nDmaSem) (N : ℕ)
    (hN : dst.view.dmaCredit = N) {hsrc : src.view.WordExact} {hdst : dst.view.WordExact}
    (n : ℕ) (hlv : lv ((c.tc : Thread nD τ), .dma sm) () < n) {R : sProp 𝕄} {Q : PUnit → sProp 𝕄} :
    iprop(levAts L lv ∗ Flying c sm N R ∗ Owes c n)
      ⊢ iprop((R ∗ semVal ((c.tc : Thread nD τ), .dma sm) 0 ∗ Owes c n -∗ Q ⟨⟩)
        -∗ run c (Prog.lift (.waitDma2 sm src dst hsrc hdst)) Q) := by
  unfold Owes
  iintro ⟨Hlev, HF, ⟨%W, HO⟩⟩ Hk
  simp only [Prog.lift]
  iapply (Transfers.wp_waitLocalO EC 𝒱₀ (c.tc : Thread nD τ) none () hN) $$ [Hlev HF HO]
  · isplitl [HF]; · iexact HF
    isplitl [HO]; · iexact HO
    iapply (mayWait c n (.dma sm) hlv); iexact Hlev
  iintro ⟨HR, Hv, HO⟩
  rw [wp_ret]
  imodintro
  iapply Hk
  isplitl [HR]; · iexact HR
  isplitl [Hv]; · iexact Hv
  iexists _; iexact HO

end Copy

end Cert.KernelProof
-- ==== Proof.Messages.lean ====
/-
# The rules of the messages

A message sent, the wait for it to have left, the wait for it to have arrived, and the greetings of the
three peers: what each takes and what it leaves.
-/
module

public import proofs.«01_k».proof.Proof.Rules

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What every device knows throughout: the cells' invariants, at names `κ`, that their round is open, and the levels. -/
def Known (κ : Dev nD × Key → ℕ) : sProp 𝕄 :=
  iprop(bigSep Finset.univ (fun ck : Dev nD × Key => cellInv ER (sched m) (κ ck) (kcell ck))
    ∗ bigSep Finset.univ (fun ck : Dev nD × Key => reached ER (kcell ck) 0) ∗ levAts L lv)

/-- Knowing the protocol can be shared. -/
instance known_persistent (κ : Dev nD × Key → ℕ) : BI.Persistent (Known m κ) := by unfold Known; infer_instance

variable {m} {κ : Dev nD × Key → ℕ}

/-- It says what is agreed of each cell, -/
theorem known_cell (ck : Dev nD × Key) : Known m κ ⊢ cellInv ER (sched m) (κ ck) (kcell ck) := by
  unfold Known; iintro ⟨H, -, -⟩
  iapply (show bigSep Finset.univ (fun ck : Dev nD × Key => cellInv ER (sched m) (κ ck) (kcell ck))
    ⊢ cellInv ER (sched m) (κ ck) (kcell ck) from bigSep_elim (Finset.mem_univ ck)); iexact H
/-- that each cell's first round has begun, -/
theorem known_reached (ck : Dev nD × Key) : Known m κ ⊢ reached ER (kcell ck) 0 := by
  unfold Known; iintro ⟨-, H, -⟩
  iapply (show bigSep Finset.univ (fun ck : Dev nD × Key => (reached ER (kcell ck) 0 : sProp 𝕄))
    ⊢ reached ER (kcell ck) 0 from bigSep_elim (Finset.mem_univ ck)); iexact H
/-- and the order of the waits. -/
theorem known_levels : Known m κ ⊢ levAts L lv := by
  unfold Known; iintro ⟨-, -, H⟩; iexact H

section Cells
omit κ

/-- A message pays its sender's cell once. -/
theorem duties_send (c : Dev nD) (k : Fin 16) (i : Fin 4) : (0 : Fin 3) ∈ (sched (F := F) m).duties (sendCell c k i) 0 := by
  have h := duties_eq m (c, .inl (k, i, false))
  exact (Finset.ext_iff.mp h 0).mpr (Finset.mem_singleton_self _)
/-- It pays its receiver's cell once. -/
theorem duties_recv (c : Dev nD) (k : Fin 16) (i : Fin 4) : (0 : Fin 3) ∈ (sched (F := F) m).duties (recvCell c k i) 0 := by
  have h := duties_eq m (c, .inl (k, i, true))
  exact (Finset.ext_iff.mp h 0).mpr (Finset.mem_singleton_self _)
/-- Each neighbour pays a barrier's cell. -/
theorem duties_meet (c : Dev nD) (b : Bool) (d : Fin 3) : d ∈ (sched (F := F) m).duties (meetCell c b) 0 := by
  have h := duties_eq m (c, .inr b)
  rw [kcell_meet] at h
  exact (Finset.ext_iff.mp h d).mpr (Finset.mem_univ _)
/-- What a message pays its sender's cell, -/
theorem amount_send (c : Dev nD) (k : Fin 16) (i : Fin 4) (d : Fin 3) : (sched (F := F) m).amount (sendCell c k i) 0 d = credit :=
  amount_eq m (c, .inl (k, i, false)) d
/-- and its receiver's; -/
theorem amount_recv (c : Dev nD) (k : Fin 16) (i : Fin 4) (d : Fin 3) : (sched (F := F) m).amount (recvCell c k i) 0 d = credit :=
  amount_eq m (c, .inl (k, i, true)) d
/-- a barrier's signal is of one unit. -/
theorem amount_meet (c : Dev nD) (b : Bool) (d : Fin 3) : (sched (F := F) m).amount (meetCell c b) 0 d = 1 := by
  have h := amount_eq m (c, .inr b) d
  rw [kcell_meet] at h
  exact h
/-- What the sender gets back with the payment: the buffer it sent from. -/
theorem payload_send (c : Dev nD) (k : Fin 16) (i : Fin 4) (d : Fin 3) :
    (sched (F := F) m).payload (sendCell c k i) 0 d = held c (srcOf k i) (content m k i c) :=
  payload_eq m (c, .inl (k, i, false)) d
/-- What the receiver gets: the buffer with the contents sent. -/
theorem payload_recv (c : Dev nD) (k : Fin 16) (i : Fin 4) (d : Fin 3) :
    (sched (F := F) m).payload (recvCell c k i) 0 d = held c (dstOf k i) (content m k i (target k i c)) :=
  payload_eq m (c, .inl (k, i, true)) d
/-- What a barrier's signal hands over. -/
theorem payload_meet (c : Dev nD) (b : Bool) (d : Fin 3) : (sched (F := F) m).payload (meetCell c b) 0 d = pay m (c, .inr b) d := by
  have h := payload_eq m (c, .inr b) d
  rw [kcell_meet] at h
  exact h

end Cells

/-! ## The wait on a cell -/

/-- The wait for the whole round of one of the device's cells. -/
theorem run_cell_wait (c : Dev nD) (x : Key) (n N : ℕ) (hn : klev x < n) (hN : (dutiesOf x).card * unitsOf x = N)
    {w : TpuEff nD τ sig (Elt F) Λ₀ .tc PUnit}
    (hw : ∀ K : PUnit → sProp 𝕄, wpE' (defs₀ (F := F)) 𝒱₀ (c.tc : Thread nD τ) none ∅ Set.univ w K = waitSpec (c.tc : Thread nD τ) Set.univ (ksem x) N K)
    {Q : PUnit → sProp 𝕄} :
    iprop(Known m κ ∗ cred (tallyAt (kcell (c, x)) () N) ∗ atPos ER (kcell (c, x)) 0 ∅ 0 ∗ Owes c n)
      ⊢ iprop((bigSep (dutiesOf x) (fun d => pay m (c, x) d) ∗ atPos ER (kcell (c, x)) 1 ∅ 0 ∗ Owes c n -∗ Q ⟨⟩)
        -∗ run c (Prog.lift w) Q) := by
  unfold Owes
  iintro ⟨#HK, Hc, Hat, ⟨%W, HO⟩⟩ Hk
  simp only [Prog.lift]
  iapply (Rounds.wp_wait_rest_token 𝒱₀ ER (sched m) (c.tc : Thread nD τ) none (κ := κ (c, x)) (sm := ksem x) hw (Set.mem_univ _) ()
    (O := owed c n) (W := W) (R := 0) (m := 0) (T := ∅)
    (by rw [Nat.zero_add]; exact hN.symm.trans (expect_eq m (c, x)).symm)) $$ [Hc Hat HO]
  · isplitr; · iapply (known_cell (c, x)); iexact HK
    isplitl [Hc]; · iexact Hc
    isplitl [HO]; · iexact HO
    isplitr
    · iapply (mayWait c n (ksem x) (by have := lv_kcell (c, x); exact this.trans_lt hn))
      iapply known_levels; iexact HK
    iexact Hat
  iintro ⟨HO, Hat, -, Hpay⟩
  rw [wp_ret]
  imodintro
  iapply Hk
  isplitl [Hpay]
  · rw [show (sched m).duties ((c.tc : Thread nD τ), ksem x) 0 = dutiesOf x from duties_eq m (c, x), Finset.sdiff_empty]
    iapply (show bigSep (dutiesOf x) (fun d => (sched m).payload ((c.tc : Thread nD τ), ksem x) 0 d)
      ⊢ bigSep (dutiesOf x) (fun d => pay m (c, x) d) from bigSep_mono fun d _ => Entails.of_eq (payload_eq m (c, x) d))
    iexact Hpay
  isplitl [Hat]; · iexact Hat
  iexists _; iexact HO

/-! ## Messages -/

/-- The tokens of message `i` of chunk `k` of device `c`, before it is sent. -/
def Tokens (c : Dev nD) (k : Fin 16) (i : Fin 4) : sProp 𝕄 :=
  iprop(dutyTok ER (sendCell c k i) 0 (0 : Fin 3) ∗ dutyTok ER (recvCell (target k i c) k i) 0 (0 : Fin 3)
    ∗ atPos ER (sendCell c k i) 0 (∅ : Finset (Fin 3)) 0 ∗ atPos ER (recvCell c k i) 0 (∅ : Finset (Fin 3)) 0
    ∗ cred (tallyAt (recvCell c k i) () credit))

/-- A message not yet sent: its tokens and the tile it is written to. -/
def Unsent (c : Dev nD) (k : Fin 16) (i : Fin 4) : sProp 𝕄 :=
  iprop(Tokens (F := F) c k i ∗ anyAt (target k i c) (dstOf k i))

/-- A message sent, not yet awaited. -/
def Sent (c : Dev nD) (k : Fin 16) (i : Fin 4) : sProp 𝕄 :=
  iprop(cred (tallyAt (sendCell c k i) () credit) ∗ cred (tallyAt (recvCell c k i) () credit)
    ∗ atPos ER (sendCell c k i) 0 (∅ : Finset (Fin 3)) 0 ∗ atPos ER (recvCell c k i) 0 (∅ : Finset (Fin 3)) 0)

/-- A message awaited at both ends. -/
def Done (c : Dev nD) (k : Fin 16) (i : Fin 4) : sProp 𝕄 :=
  iprop(atPos ER (sendCell c k i) 1 (∅ : Finset (Fin 3)) 0 ∗ atPos ER (recvCell c k i) 1 (∅ : Finset (Fin 3)) 0)

/-- A message is sent. -/
theorem run_send (c : Dev nD) (k : Fin 16) (i : Fin 4) (n : ℕ) (hn : time (.inl (k, i)) = n) {Q : PUnit → sProp 𝕄} :
    iprop(Known m κ ∗ Unsent c k i ∗ held c (srcOf k i) (content m k i c) ∗ Owes c n)
      ⊢ iprop((Sent c k i ∗ Owes c (n + 1) -∗ Q ⟨⟩) -∗ run c (send c k i) Q) := by
  unfold Unsent Tokens Sent held owns anyAt Owes send
  iintro ⟨#HK, ⟨⟨Hts, Htr, Has, Har, Hcr⟩, ⟨%fd, Hd⟩⟩, ⟨%fs, %hfs, Hs⟩, ⟨%W, HO⟩⟩ Hk
  simp only [Prog.lift]
  iapply (Rounds.wp_send_pointsTo 𝒱₀ ER (sched m) (c.tc : Thread nD τ) none
    (κ₁ := κ (c, .inl (k, i, false))) (κ₂ := κ (target k i c, .inl (k, i, true)))
    (r₁ := 0) (r₂ := 0) (d₁ := (0 : Fin 3)) (d₂ := (0 : Fin 3)) (fd := fd) (fs := fs) (q := fullShare)
    (duties_send c k i) (duties_recv (target k i c) k i)
    () () credit (dst_credit k i) (amount_send c k i 0) (amount_recv (target k i c) k i 0)
    (owed c (n + 1)) (owed_send c n (.inl (k, i)) hn) (W := W)
    (by
      refine BIBase.Entails.trans ?_ (Entails.of_eq (payload_send c k i 0).symm)
      unfold held owns
      iintro H; iexists fs; isplitr; · ipureintro; exact hfs
      iexact H)
    (by
      refine BIBase.Entails.trans ?_ (Entails.of_eq (payload_recv (target k i c) k i 0).symm)
      rw [target_target]; unfold held owns
      iintro H; iexists (dstOf k i).view.write (Elt F) fd ((srcOf k i).view.read (Elt F) fs) Finset.univ; isplitr
      · ipureintro; rw [View.read_write_univ]; exact hfs
      iexact H)
    (hr := Topo.routes_tc _ _)) $$ [Hts Htr Hd Hs HO]
  · isplitr; · iapply (known_cell (c, .inl (k, i, false))); iexact HK
    isplitr; · iapply (known_cell (target k i c, .inl (k, i, true))); iexact HK
    isplitl [Hs]; · iexact Hs
    isplitl [Hd]; · iexact Hd
    isplitl [HO]; · iexact HO
    isplitl [Hts]; · iexact Hts
    isplitr; · iapply (known_reached (c, .inl (k, i, false))); iexact HK
    isplitl [Htr]; · iexact Htr
    iapply (known_reached (target k i c, .inl (k, i, true))); iexact HK
  iintro ⟨Hcs, HO⟩
  rw [wp_ret]
  imodintro
  iapply Hk
  isplitr [HO]
  · isplitl [Hcs]; · iexact Hcs
    isplitl [Hcr]; · iexact Hcr
    isplitl [Has]; · iexact Has
    iexact Har
  · iexists W; iexact HO

/-- A message is awaited at both ends: its source is the device's again, and what its peer sent is in its tile. -/
theorem run_await (c : Dev nD) (k : Fin 16) (i : Fin 4) (n : ℕ) (hn : time (.inl (k, i)) < n) {Q : PUnit → sProp 𝕄} :
    iprop(Known m κ ∗ Sent c k i ∗ Owes c n)
      ⊢ iprop((Done c k i ∗ held c (srcOf k i) (content m k i c) ∗ held c (dstOf k i) (content m k i (target k i c)) ∗ Owes c n -∗ Q ⟨⟩)
        -∗ run c (waitSend k i) (fun _ => run c (waitRecv k i) Q)) := by
  unfold Sent Done waitSend waitRecv
  iintro ⟨#HK, ⟨Hcs, Hcr, Has, Har⟩, HO⟩ Hk
  iapply (run_cell_wait c (.inl (k, i, false)) n credit (Nat.zero_le _ |>.trans_lt hn) (by simp [dutiesOf, unitsOf])
    (m := m) (κ := κ)
    (fun K => (wpE_waitDma2_eq 𝒱₀ (c.tc : Thread nD τ) none Set.univ K).trans (by rw [src_credit]; rfl))) $$ [Hcs Has HO]
  · isplitr; · iexact HK
    isplitl [Hcs]; · iexact Hcs
    isplitl [Has]; · iexact Has
    iexact HO
  iintro ⟨Hs, Has, HO⟩
  iapply (run_cell_wait c (.inl (k, i, true)) n credit hn (by simp [dutiesOf, unitsOf])
    (m := m) (κ := κ)
    (fun K => (wpE_waitDma2_eq 𝒱₀ (c.tc : Thread nD τ) none Set.univ K).trans (by rw [dst_credit]; rfl))) $$ [Hcr Har HO]
  · isplitr; · iexact HK
    isplitl [Hcr]; · iexact Hcr
    isplitl [Har]; · iexact Har
    iexact HO
  iintro ⟨Hd, Har, HO⟩
  iapply Hk
  isplitl [Has Har]
  · isplitl [Has]; · iexact Has
    iexact Har
  isplitl [Hs]
  · iapply (Entails.of_eq (show bigSep (dutiesOf (.inl (k, i, false))) (fun d => pay m (c, .inl (k, i, false)) d)
      = held c (srcOf k i) (content m k i c) from bigSep_singleton)); iexact Hs
  isplitl [Hd]
  · iapply (Entails.of_eq (show bigSep (dutiesOf (.inl (k, i, true))) (fun d => pay m (c, .inl (k, i, true)) d)
      = held c (dstOf k i) (content m k i (target k i c)) from bigSep_singleton)); iexact Hd
  iexact HO

/-! ## Greetings -/

/-- A peer is greeted. -/
theorem run_signal (c : Dev nD) (b : Bool) (d : Fin 3) (n : ℕ) (hn : time (.inr (b, d)) = n) {Q : PUnit → sProp 𝕄} :
    iprop(Known m κ ∗ dutyTok ER (meetCell (peer d c) b) 0 d ∗ pay m (peer d c, .inr b) d ∗ Owes c n)
      ⊢ iprop((Owes c (n + 1) -∗ Q ⟨⟩) -∗ run c (semSignalWord (peer d c) (meetSem b) 1#32) Q) := by
  unfold Owes
  iintro ⟨#HK, Ht, Hp, ⟨%W, HO⟩⟩ Hk
  simp only [semSignalWord, Prog.lift]
  iapply (Rounds.wp_signal 𝒱₀ ER (sched m) (c.tc : Thread nD τ) none (dst := ((peer d c).tc : Thread nD τ)) (sem := meetSem b)
      (κ := κ (peer d c, .inr b)) (r := 0) (d := d)
      (duties_meet (peer d c) b d) (amount_meet (peer d c) b d) ()
      (O₀ := owed c n) (owed c (n + 1)) (by rw [owed_send c n (.inr (b, d)) hn]; unfold debt creditor; rw [kcell_meet]; rfl)
      (hr := Topo.routes_tc _ _))
    $$ [Ht Hp HO]
  · isplitr; · iapply ((known_cell (peer d c, .inr b)).trans (Entails.of_eq (by rw [kcell_meet]))); iexact HK
    isplitl [HO]; · iexact HO
    isplitl [Ht]; · iexact Ht
    isplitl [Hp]; · iapply (Entails.of_eq (payload_meet (peer d c) b d).symm); iexact Hp
    iapply ((known_reached (peer d c, .inr b)).trans (Entails.of_eq (by rw [kcell_meet]))); iexact HK
  iintro HO
  rw [wp_ret]
  imodintro
  iapply Hk
  iexists W; iexact HO

/-- What a device needs to meet its peers: its tokens at their cells, its position and credit at its own, and what it
hands them. -/
def Meeting (c : Dev nD) (b : Bool) : sProp 𝕄 :=
  iprop(bigSep Finset.univ (fun d : Fin 3 => dutyTok ER (meetCell (peer d c) b) 0 d)
    ∗ atPos ER (meetCell c b) 0 (∅ : Finset (Fin 3)) 0 ∗ cred (tallyAt (meetCell c b) () 3))

/-- The first place of a meeting in the program. -/
def meetTime (b : Bool) : ℕ := if b then 100 else 0

/-- The peers are greeted and their greetings awaited. -/
theorem run_greet (c : Dev nD) (b : Bool) {Q : PUnit → sProp 𝕄} :
    iprop(Known m κ ∗ Meeting c b ∗ bigSep Finset.univ (fun d : Fin 3 => pay m (peer d c, .inr b) d) ∗ Owes c (meetTime b))
      ⊢ iprop((bigSep Finset.univ (fun d : Fin 3 => pay m (c, .inr b) d) ∗ atPos ER (meetCell c b) 1 (∅ : Finset (Fin 3)) 0
            ∗ Owes c (meetTime b + 3) -∗ Q ⟨⟩)
        -∗ run c (greet c (meetSem b) zPeer xPeer yPeer) Q) := by
  unfold Meeting
  have h3 (Φ : Fin 3 → sProp 𝕄) : bigSep Finset.univ Φ = iprop(Φ 0 ∗ Φ 1 ∗ Φ 2) := by
    rw [bigSep_univ_eq_bigSepL [0, 1, 2] (by decide) (by decide), bigSepL_cons_cons, bigSepL_cons_cons, bigSepL_singleton]
    rfl
  simp only [h3]
  iintro ⟨#HK, ⟨⟨Ht0, Ht1, Ht2⟩, Hat, Hc⟩, ⟨Hp0, Hp1, Hp2⟩, HO⟩ Hk
  unfold greet
  simp only [wp_bind]
  iapply (run_signal c b 0 (meetTime b) (by cases b <;> rfl) (m := m) (κ := κ)) $$ [Ht0 Hp0 HO]
  · isplitr; · iexact HK
    isplitl [Ht0]; · iexact Ht0
    isplitl [Hp0] <;> iassumption
  iintro HO
  iapply (run_signal c b 1 (meetTime b + 1) (by cases b <;> rfl) (m := m) (κ := κ)) $$ [Ht1 Hp1 HO]
  · isplitr; · iexact HK
    isplitl [Ht1]; · iexact Ht1
    isplitl [Hp1] <;> iassumption
  iintro HO
  iapply (run_signal c b 2 (meetTime b + 2) (by cases b <;> rfl) (m := m) (κ := κ)) $$ [Ht2 Hp2 HO]
  · isplitr; · iexact HK
    isplitl [Ht2]; · iexact Ht2
    isplitl [Hp2] <;> iassumption
  iintro HO
  simp only [semWaitWord]
  iapply (run_cell_wait c (.inr b) (meetTime b + 3) 3 (by cases b <;> decide) (by simp [dutiesOf, unitsOf]) (m := m) (κ := κ)
    (fun K => (wpE_semWait_eq 𝒱₀ (c.tc : Thread nD τ) none Set.univ K).trans (by cases b <;> rfl))) $$ [Hat Hc HO]
  · isplitr; · iexact HK
    rw [kcell_meet]
    isplitl [Hc]; · iexact Hc
    isplitl [Hat] <;> iassumption
  rw [kcell_meet, show dutiesOf (.inr b) = Finset.univ from rfl, h3]
  iexact Hk

end Cert.KernelProof
-- ==== Proof.Local.lean ====
/-
# Copies within a device

Rows of an operand are copied into a staging slot while the operand stays readable: each of the two slots in
flight reads the operand at a half of the full share. Rows of the result are copied out of a staging slot.
-/
module

public import proofs.«01_k».proof.Proof.Messages

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The semaphores of the copies within a device are at the lowest level. -/
theorem lv_local (c : Dev nD) (s : Fin sig.nDmaSem) (h : s.val < 4 ∨ 164 ≤ s.val) : lv ((c.tc : Thread nD τ), .dma s) () = 0 := by
  unfold lv
  refine Function.extend_apply' _ _ _ ?_
  rintro ⟨⟨c', x⟩, hx⟩
  have h₁ : ksem x = .dma s := congrArg Prod.snd hx
  have h₂ : keyNum x = s.val := by rw [← semNum_ksem, h₁]; rfl
  have hs := s.isLt
  simp only [show sig.nDmaSem = 166 from rfl] at hs
  rcases x with ⟨k, i, b⟩ | b
  · have hk := k.isLt
    cases b <;> fin_cases i <;> simp [keyNum, sendNum, recvNum, xFirst] at h₂ <;> (repeat' split at h₂) <;> omega
  · cases b <;> simp [keyNum] at h₂ <;> omega

/-- Nothing left to run. -/
theorem run_pure (c : Dev nD) {Q : PUnit → sProp 𝕄} : Q ⟨⟩ ⊢ run c (Pure.pure ⟨⟩ : Code F PUnit) Q := by
  unfold run
  rw [show (Pure.pure ⟨⟩ : Code F PUnit) = .ret ⟨⟩ from rfl, wp_ret]
  iintro H
  imodintro
  iexact H

/-! ## A piece of an array copied in -/

section Fetch

variable {s : Shape} {e : EltTy} {sp sp' : Space}

/-- A copy in flight out of a piece of an array at share `q`, and the rest of the array. -/
def Fetch (c : Dev nD) (src : Memref sig .tc sp s e) (dst : Memref sig .tc sp' s e) (sm : Fin sig.nDmaSem) (N : ℕ) (q : PosShare TreeShare)
    (fs : Buf (Elt F) (src.view.loc (c.tc : Thread nD τ))) : sProp 𝕄 :=
  iprop(Flying c sm N iprop(held c dst (src.view.read (Elt F) fs) ∗ (src.view.loc (c.tc : Thread nD τ) ↦[src.view.set]{q} fs))
    ∗ (src.view.loc (c.tc : Thread nD τ) ↦[Finset.univ \ src.view.set]{q} fs))

/-- The copy started. -/
theorem run_fetch (c : Dev nD) (src : Memref sig .tc sp s e) (dst : Memref sig .tc sp' s e) (sm : Fin sig.nDmaSem) (N : ℕ)
    (hN : dst.view.dmaCredit = N) (hN0 : 0 < N)
    {hsrc : src.view.WordExact} {hdst : dst.view.WordExact} {hsem : DmaTarget.Typed sp (.dma sm) (DmaTarget.here dst : DmaTarget nD τ sig .tc sp' s e)}
    {q : PosShare TreeShare} {fs : Buf (Elt F) (src.view.loc (c.tc : Thread nD τ))} {Q : PUnit → sProp 𝕄} :
    iprop((src.view.loc (c.tc : Thread nD τ) ↦[Finset.univ]{q} fs) ∗ anyAt c dst ∗ semVal ((c.tc : Thread nD τ), .dma sm) 0)
      ⊢ iprop((Fetch c src dst sm N q fs -∗ Q ⟨⟩)
        -∗ run c (Prog.lift (.enqueueDma src (.here dst) (.dma sm) hsrc hdst hsem)) Q) := by
  iintro ⟨Hs, Hd, Hv⟩ Hk
  ihave Hs2 := ((pointsTo_split_subset (Finset.subset_univ src.view.set)).1) $$ Hs
  icases Hs2 with ⟨Hs, Hr⟩
  iapply (run_start c src dst sm N hN hN0 (fs := fs) (q := q)) $$ [Hs Hd Hv]
  · isplitl [Hs]; · iexact Hs
    isplitl [Hd]; · iexact Hd
    iexact Hv
  iintro HF
  iapply Hk
  unfold Fetch
  isplitl [HF]; · iexact HF
  iexact Hr

/-- The copy awaited. -/
theorem run_fetched (c : Dev nD) (src : Memref sig .tc sp s e) (dst : Memref sig .tc sp' s e) (sm : Fin sig.nDmaSem) (N : ℕ)
    (hN : dst.view.dmaCredit = N) {hsrc : src.view.WordExact} {hdst : dst.view.WordExact}
    (n : ℕ) (hlv : lv ((c.tc : Thread nD τ), .dma sm) () < n)
    {q : PosShare TreeShare} {fs : Buf (Elt F) (src.view.loc (c.tc : Thread nD τ))} {Q : PUnit → sProp 𝕄} :
    iprop(levAts L lv ∗ Fetch c src dst sm N q fs ∗ Owes c n)
      ⊢ iprop((held c dst (src.view.read (Elt F) fs) ∗ (src.view.loc (c.tc : Thread nD τ) ↦[Finset.univ]{q} fs)
            ∗ semVal ((c.tc : Thread nD τ), .dma sm) 0 ∗ Owes c n -∗ Q ⟨⟩)
        -∗ run c (Prog.lift (.waitDma2 sm src dst hsrc hdst)) Q) := by
  unfold Fetch
  iintro ⟨Hl, ⟨HF, Hr⟩, HO⟩ Hk
  iapply (run_wait c src dst sm N hN n hlv) $$ [Hl HF HO]
  · isplitl [Hl]; · iexact Hl
    isplitl [HF]; · iexact HF
    iexact HO
  iintro ⟨⟨Hd, Hs⟩, Hv, HO⟩
  iapply Hk
  isplitl [Hd]; · iexact Hd
  isplitl [Hs Hr]
  · iapply ((pointsTo_split_subset (Finset.subset_univ src.view.set)).2)
    isplitl [Hs]; · iexact Hs
    iexact Hr
  isplitl [Hv]; · iexact Hv
  iexact HO

end Fetch

/-! ## The left operand's double buffer -/

/-- The share of an operand a slot's copies read it at. -/
def half (s : Fin 2) : PosShare TreeShare := if s = 0 then fullShare.left else fullShare.right

variable (m : (ℓ : Loc nD τ sig) → Buf (Elt F) ℓ)

/-- The units of a copy into a slot. -/
def dyUnits : ℕ := (dySlot 0).view.dmaCredit
/-- A copy of a block of rows is of a positive amount. -/
theorem dyUnits_pos : 0 < dyUnits := View.dmaCredit_pos _ (by decide)
/-- The amount is the same for both slots. -/
theorem dyUnits_eq (s : Fin 2) : (dySlot s).view.dmaCredit = dyUnits := rfl

/-- The copies of the left operand are waited for below everything that is owed. -/
theorem dySem_low (c : Dev nD) (s : Fin 2) : lv ((c.tc : Thread nD τ), .dma (sem2 cc0_scratch10 s)) () = 0 :=
  lv_local c _ (by revert s; decide)

/-- A slot no copy fills. -/
def DyFree (c : Dev nD) (s : Fin 2) : sProp 𝕄 :=
  iprop(anyAt c (dySlot s) ∗ semVal ((c.tc : Thread nD τ), .dma (sem2 cc0_scratch10 s)) 0
    ∗ (dyM.view.loc (c.tc : Thread nD τ) ↦[Finset.univ]{half s} m (c.tc.loc main_arg0)))
/-- A slot being filled with the rows of chunk `k`. -/
def DyFull (c : Dev nD) (k : Fin 16) (s : Fin 2) : sProp 𝕄 :=
  Fetch c (dyRows k) (dySlot s) (sem2 cc0_scratch10 s) dyUnits (half s) (m (c.tc.loc main_arg0))

variable {m}

/-- Starting the copy of a block of rows into a slot. -/
theorem run_dyStart (c : Dev nD) (k : Fin 16) (s : Fin 2) {Q : PUnit → sProp 𝕄} :
    DyFree m c s ⊢ iprop((DyFull m c k s -∗ Q ⟨⟩) -∗ run c (dyStart k s) Q) := by
  unfold DyFree DyFull dyStart
  iintro ⟨Ha, Hv, Hs⟩ Hk
  iapply (run_fetch c (dyRows k) (dySlot s) (sem2 cc0_scratch10 s) dyUnits (dyUnits_eq s) dyUnits_pos (q := half s) (fs := m (c.tc.loc main_arg0))) $$ [Ha Hv Hs]
  · isplitl [Hs]; · iexact Hs
    isplitl [Ha]; · iexact Ha
    iexact Hv
  iexact Hk

/-- Waiting for it: the slot then has the block. -/
theorem run_dyWait (c : Dev nD) (k : Fin 16) (s : Fin 2) (n : ℕ) (hn : 0 < n) {Q : PUnit → sProp 𝕄} :
    iprop(levAts L lv ∗ DyFull m c k s ∗ Owes c n)
      ⊢ iprop((held c (dySlot s) (dyAt m c k) ∗ (held c (dySlot s) (dyAt m c k) -∗ DyFree m c s) ∗ Owes c n -∗ Q ⟨⟩)
        -∗ run c (dyWait k s) Q) := by
  unfold DyFree DyFull dyWait
  iintro ⟨Hl, HF, HO⟩ Hk
  iapply (run_fetched c (dyRows k) (dySlot s) (sem2 cc0_scratch10 s) dyUnits (dyUnits_eq s) n (by rw [dySem_low]; exact hn)) $$ [Hl HF HO]
  · isplitl [Hl]; · iexact Hl
    isplitl [HF]; · iexact HF
    iexact HO
  iintro ⟨Hd, Hs, Hv, HO⟩
  iapply Hk
  isplitl [Hd]; · iexact Hd
  isplitl [Hs Hv]
  · iintro Hd
    isplitl [Hd]; · iapply (any_of_held c (dySlot s) (dyAt m c k)); iexact Hd
    isplitl [Hv]; · iexact Hv
    iexact Hs
  iexact HO

/-- The slot of the next chunk, filled or filling if there is such a chunk. -/
def DyBefore (m : (ℓ : Loc nD τ sig) → Buf (Elt F) ℓ) (c : Dev nD) (n : ℕ) : sProp 𝕄 :=
  if h : n < 16 then DyFull m c ⟨n, h⟩ (par n) else DyFree m c (par n)
/-- Both slots, chunk `n` the next to be read. -/
def DyS (m : (ℓ : Loc nD τ sig) → Buf (Elt F) ℓ) (c : Dev nD) (n : ℕ) : sProp 𝕄 := iprop(DyBefore m c n ∗ DyFree m c (par (n + 1)))

/-- Slots alternate. -/
theorem par_two (n : ℕ) : par (n + 2) = par n := by simp [par]

/-- The next chunk's block is fetched while this one's is waited for. -/
theorem run_dyNext (c : Dev nD) (k : Fin 16) {Q : PUnit → sProp 𝕄} :
    DyFree m c (par (k.val + 1)) ⊢ iprop((DyBefore m c (k.val + 1) -∗ Q ⟨⟩) -∗ run c (dyNext k) Q) := by
  unfold dyNext DyBefore
  split
  · exact run_dyStart c _ _
  · iintro H Hk
    iapply (run_pure c)
    iapply Hk; iexact H

/-! ## The result's double buffer -/

/-- The units of a copy out of a slot. -/
def outUnits : ℕ := (outRows 0).view.dmaCredit
/-- A copy of rows of the result is of a positive amount. -/
theorem outUnits_pos : 0 < outUnits := View.dmaCredit_pos _ (by decide)
/-- The amount is the same for every chunk. -/
theorem outUnits_eq (k : Fin 16) : (outRows k).view.dmaCredit = outUnits := rfl

/-- The copies of the result are waited for below everything that is owed. -/
theorem outSem_low (c : Dev nD) (s : Fin 2) : lv ((c.tc : Thread nD τ), .dma (sem2 cc0_scratch17 s)) () = 0 :=
  lv_local c _ (by revert s; decide)

/-- A slot of the result's staging buffer not in use. -/
def OutFree (c : Dev nD) (s : Fin 2) : sProp 𝕄 :=
  iprop(anyAt (F := F) c (outSlot s) ∗ semVal ((c.tc : Thread nD τ), .dma (sem2 cc0_scratch17 s)) 0)
/-- A slot being copied out to the rows of chunk `k`. -/
def OutFull (m : (ℓ : Loc nD τ sig) → Buf (Elt F) ℓ) (c : Dev nD) (k : Fin 16) (s : Fin 2) : sProp 𝕄 :=
  Flying c (sem2 cc0_scratch17 s) outUnits iprop(held c (outRows k) (rowsAt m c k) ∗ anyAt c (outSlot s))

/-- Starting the copy of a chunk of the result out of its slot. -/
theorem run_outStart (c : Dev nD) (k : Fin 16) (s : Fin 2) {Q : PUnit → sProp 𝕄} :
    iprop(held c (outSlot s) (rowsAt m c k) ∗ anyAt c (outRows k) ∗ semVal ((c.tc : Thread nD τ), .dma (sem2 cc0_scratch17 s)) 0)
      ⊢ iprop((OutFull m c k s -∗ Q ⟨⟩) -∗ run c (outStart k s) Q) := by
  unfold OutFull outStart held
  iintro ⟨Hs, Hd, Hv⟩ Hk
  ihave Hs' := (show owns (c.tc : Thread nD τ) (outSlot s) fullShare (rowsAt m c k)
    ⊢ iprop(∃ f, ⌜(outSlot s).view.read (Elt F) f = rowsAt m c k⌝ ∗ (outSlot s).view.loc (c.tc : Thread nD τ) ↦[(outSlot s).view.set]{fullShare} f) from .rfl) $$ Hs
  icases Hs' with ⟨%f, %hf, Hs⟩
  iapply (run_start c (outSlot s) (outRows k) (sem2 cc0_scratch17 s) outUnits (outUnits_eq k) outUnits_pos (fs := f) (q := fullShare)) $$ [Hs Hd Hv]
  · isplitl [Hs]; · iexact Hs
    isplitl [Hd]; · iexact Hd
    iexact Hv
  iintro HF
  iapply Hk
  iapply (Transfers.Flight_mono EC (c.tc : Thread nD τ) (BIClass.sep_mono (Entails.of_eq (by rw [hf])) ?_)) $$ HF
  unfold anyAt
  iintro H; iexists f; iexact H

/-- Waiting for it: the rows are in the result, and the slot is free. -/
theorem run_outWait (c : Dev nD) (k : Fin 16) (s : Fin 2) (n : ℕ) (hn : 0 < n) {Q : PUnit → sProp 𝕄} :
    iprop(levAts L lv ∗ OutFull m c k s ∗ Owes c n)
      ⊢ iprop((held c (outRows k) (rowsAt m c k) ∗ OutFree c s ∗ Owes c n -∗ Q ⟨⟩) -∗ run c (outWait k s) Q) := by
  unfold OutFree OutFull outWait
  iintro ⟨Hl, HF, HO⟩ Hk
  iapply (run_wait c (outSlot s) (outRows k) (sem2 cc0_scratch17 s) outUnits (outUnits_eq k) n (by rw [outSem_low]; exact hn)) $$ [Hl HF HO]
  · isplitl [Hl]; · iexact Hl
    isplitl [HF]; · iexact HF
    iexact HO
  iintro ⟨⟨Hd, Hs⟩, Hv, HO⟩
  iapply Hk
  isplitl [Hd]; · iexact Hd
  isplitl [Hs Hv]
  · isplitl [Hs]; · iexact Hs
    iexact Hv
  iexact HO

end Cert.KernelProof
-- ==== Proof.Chunks.lean ====
/-
# The stages of a chunk

What a device holds of one row chunk at each phase of its passage through the pipeline, and the stages that take
it from each phase to the next.
-/
module

public import proofs.«01_k».proof.Proof.Local

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Whole-buffer loads, and tiles without a leading axis -/

section Plain

variable {s : Shape} {e : EltTy} (M : Memref sig .tc .vmem s e) (r : Rect s) (hr : ∀ a, r.stride a = 1)

/-- A load of a rectangle at any contents, its value not read. -/
theorem run_load_plain (c : Dev nD) {hl : M.view.LoadsAt r.toLoadRect} {Q : (r.shape.Idx → Elt F e) → sProp 𝕄} :
    anyAt c (M.slice r hr) ⊢ iprop((∀ v, anyAt c (M.slice r hr) -∗ Q v) -∗ run c (Prog.lift (.load M r.toLoadRect hl)) Q) := by
  unfold anyAt
  iintro ⟨%f, H⟩ Hk
  simp only [Prog.lift]
  iapply (wp_load_rect 𝒱₀ (c.tc : Thread nD τ) none Set.univ (m := M) (r := r) (S := (M.access r).set) (f := f) (Finset.Subset.refl _)) $$ H
  iintro H
  rw [wp_ret]
  imodintro
  iapply Hk
  iexists f
  iexact H

/-- A load of a rectangle at known contents. -/
theorem run_load_held (c : Dev nD) {hl : M.view.LoadsAt r.toLoadRect} (w : r.shape.Idx → Elt F e) {Q : (r.shape.Idx → Elt F e) → sProp 𝕄} :
    held c (M.slice r hr) w ⊢ iprop((held c (M.slice r hr) w -∗ Q w) -∗ run c (Prog.lift (.load M r.toLoadRect hl)) Q) := by
  unfold held owns
  iintro ⟨%f, %hf, H⟩ Hk
  simp only [Prog.lift]
  iapply (wp_load_rect 𝒱₀ (c.tc : Thread nD τ) none Set.univ (m := M) (r := r) (S := (M.access r).set) (f := f) (Finset.Subset.refl _)) $$ H
  iintro H
  rw [wp_ret]
  imodintro
  have hf' : (M.access r).read (Elt F) f = w := hf
  rw [hf']
  iapply Hk
  iexists f
  isplitr; · ipureintro; exact hf
  iexact H

/-- A store over a rectangle. -/
theorem run_store_plain (c : Dev nD) (w : r.shape.Idx → Elt F e) {hx : (M.access r).Stores Finset.univ}
    {hm : (Finset.univ : Finset r.shape.Idx) = Finset.univ ∨ ∀ a, r.stride a = 1} {Q : PUnit → sProp 𝕄} :
    anyAt c (M.slice r hr) ⊢ iprop((held c (M.slice r hr) w -∗ Q ⟨⟩) -∗ run c (Prog.lift (.store M r w Finset.univ hx hm)) Q) := by
  unfold held owns anyAt
  iintro ⟨%f, H⟩ Hk
  simp only [Prog.lift]
  iapply (wp_store 𝒱₀ (c.tc : Thread nD τ) none Set.univ (m := M) (r := r) (S := (M.access r).set) (f := f)
    (by rw [View.setOn_univ])) $$ H
  iintro H
  rw [wp_ret]
  imodintro
  iapply Hk
  iexists (M.access r).write (Elt F) f w Finset.univ
  isplitr
  · ipureintro
    exact View.read_write_univ _ _
  iexact H

end Plain

/-! ## The phases of a chunk -/

variable (m : (ℓ : Loc nD τ sig) → Buf (Elt F) ℓ)

/-- What device `c` holds of chunk `k`: at phase 0 nothing is computed, at 1 its partial product is under way, at 2 its
sum, at 3 its second exchange, at 4 its rows are staged and at 5 they are copied out. -/
def Chunk (c : Dev nD) (k : Fin 16) : ℕ → sProp 𝕄
  | 0 => iprop(anyAt c (slot16 zsendM k) ∗ anyAt c (slot16 sumM k) ∗ Unsent c k 0 ∗ Unsent c k 1 ∗ Unsent c k 2 ∗ Unsent c k 3
      ∗ anyAt c (outRows k))
  | 1 => iprop(anyAt c (slot16 sumM k) ∗ Sent c k 0 ∗ Unsent c k 1 ∗ Unsent c k 2 ∗ Unsent c k 3 ∗ anyAt c (outRows k))
  | 2 => iprop((anyAt c (slot16 zsendM k) ∗ anyAt c (slot16 zrecvM k) ∗ Done c k 0) ∗ Sent c k 1 ∗ Unsent c k 2 ∗ Unsent c k 3
      ∗ anyAt c (outRows k))
  | 3 => iprop((anyAt c (slot16 zsendM k) ∗ anyAt c (slot16 zrecvM k) ∗ Done c k 0) ∗ Done c k 1 ∗ Sent c k 2 ∗ Sent c k 3
      ∗ anyAt c (outRows k))
  | 4 => iprop((anyAt c (slot16 zsendM k) ∗ anyAt c (slot16 zrecvM k) ∗ Done c k 0) ∗ Done c k 1 ∗ Done c k 2 ∗ Done c k 3
      ∗ anyAt c (slot16 sumM k) ∗ anyAt c (slot32 xrecvM k 0) ∗ anyAt c (slot32 yrecvM k 0) ∗ anyAt c (slot32 (secondM k) k 1))
  | _ + 5 => iprop((anyAt c (slot16 zsendM k) ∗ anyAt c (slot16 zrecvM k) ∗ Done c k 0) ∗ Done c k 1 ∗ Done c k 2 ∗ Done c k 3
      ∗ (anyAt c (slot16 sumM k) ∗ anyAt c (slot32 xrecvM k 0) ∗ anyAt c (slot32 yrecvM k 0) ∗ anyAt c (slot32 (secondM k) k 1))
      ∗ held c (outRows k) (rowsAt m c k))

variable {m} {κ : Dev nD × Key → ℕ}

/-! ## The messages' tiles and contents -/

/-- What the first message is sent from: the partial product. -/
theorem src0 (c : Dev nD) (k : Fin 16) : held c (srcOf k 0) (content m k 0 c) = held c (slot16 zsendM k) (zpart m c k) := rfl
/-- What the first message becomes where it lands: the neighbour's partial product. -/
theorem dst0 (c : Dev nD) (k : Fin 16) :
    held c (dstOf k 0) (content m k 0 (target k 0 c)) = held c (slot16 zrecvM k) (zpart m (zPeer c) k) := rfl
/-- What the second message is sent from: the sum. -/
theorem src1 (c : Dev nD) (k : Fin 16) : held c (srcOf k 1) (content m k 1 c) = held c (slot16 sumM k) (zsum m c k) := rfl
/-- What the third message is sent from: the sum again. -/
theorem src2 (c : Dev nD) (k : Fin 16) : held c (srcOf k 2) (content m k 2 c) = held c (slot16 sumM k) (zsum m c k) := rfl
/-- What the second message becomes: the first neighbour's sum. -/
theorem dst1 (c : Dev nD) (k : Fin 16) :
    held c (dstOf k 1) (content m k 1 (target k 1 c)) = held c (slot32 (firstM k) k 0) (zsum m (firstPeer k c) k) := rfl
/-- What the fourth message is sent from: the sum that came with the second message. -/
theorem src3 (c : Dev nD) (k : Fin 16) :
    held c (srcOf k 3) (content m k 3 c) = held c (slot32 (firstM k) k 0) (zsum m (firstPeer k c) k) := rfl
/-- What the third message becomes: the second neighbour's sum. -/
theorem dst2 (c : Dev nD) (k : Fin 16) :
    held c (dstOf k 2) (content m k 2 (target k 2 c)) = held c (slot32 (secondM k) k 0) (zsum m (secondPeer k c) k) := rfl
/-- What the fourth message becomes: the sum of the opposite corner. -/
theorem dst3 (c : Dev nD) (k : Fin 16) :
    held c (dstOf k 3) (content m k 3 (target k 3 c)) = held c (slot32 (secondM k) k 1) (zsum m (firstPeer k (secondPeer k c)) k) := rfl

/-- When the first message of a chunk is sent. -/
theorem time0 (k : Fin 16) : time (.inl (k, 0)) = 4 * k.val + 3 := rfl
/-- When the second is. -/
theorem time1 (k : Fin 16) : time (.inl (k, 1)) = 4 * k.val + 12 := rfl
/-- When the third is. -/
theorem time2 (k : Fin 16) : time (.inl (k, 2)) = 4 * k.val + 21 := rfl
/-- When the fourth is. -/
theorem time3 (k : Fin 16) : time (.inl (k, 3)) = 4 * k.val + 22 := rfl

/-! ## The partial product -/

/-- The product that a later chunk computes is the partial product. -/
theorem zpart_of (c : Dev nD) (k : Fin 16) (hk : k ≠ 0) :
    shapeCast S128x512 (k0_pay13 (liftDy (dyAt m c k)) (wqAt m c)) shapeCasts_S1x128x512_S128x512 = zpart m c k := by
  unfold zpart; rw [if_neg hk]

/-- The load of the whole transposed operand. -/
theorem run_loadWqAll (c : Dev nD) (w : Vec F S8192x512 .bf16) {Q : Vec F S8192x512 .bf16 → sProp 𝕄} :
    held c wqM w ⊢ iprop((held c wqM w -∗ Q w) -∗ run c loadWqAll Q) := by
  unfold held owns
  iintro ⟨%f, %hf, H⟩ Hk
  simp only [loadWqAll, Prog.lift]
  iapply (wp_load_rect 𝒱₀ (c.tc : Thread nD τ) none Set.univ (m := wqM) (r := rWqAll) (S := wqM.view.set) (f := f)
    (View.set_slice_subset _ _)) $$ H
  iintro H
  rw [wp_ret]
  imodintro
  have hf' : (wqM.access rWqAll).read (Elt F) f = w := by
    rw [← hf]; funext x
    have hx : rWqAll.emb x = x := by
      funext a
      apply Fin.ext
      show (![0, 0] : Fin 2 → Nat) a + 1 * (x a).val = (x a).val
      fin_cases a <;> simp
    show (wqM.view.slice rWqAll).read (Elt F) f x = wqM.view.read (Elt F) f x
    exact congrArg (wqM.view.read (Elt F) f) hx
  rw [hf']
  iapply Hk
  iexists f
  isplitr; · ipureintro; exact hf
  iexact H

/-- A later chunk's first stage: its product is computed and sent to the `z` neighbour. -/
theorem run_stageA (c : Dev nD) (k : Fin 16) (hk : k ≠ 0) {Q : PUnit → sProp 𝕄} :
    iprop(Known m κ ∗ DyS m c k.val ∗ held c wqM (wqAt m c) ∗ Chunk m c k 0 ∗ Owes c (4 * k.val + 3))
      ⊢ iprop((DyS m c (k.val + 1) ∗ held c wqM (wqAt m c) ∗ Chunk m c k 1 ∗ Owes c (4 * k.val + 4) -∗ Q ⟨⟩)
        -∗ run c (stageA c k) Q) := by
  unfold stageA DyS Chunk
  simp only [wp_bind]
  rw [show DyBefore m c k.val = DyFull m c k (par k.val) from dif_pos k.isLt]
  iintro ⟨#HK, ⟨Hfull, Hfree⟩, Hwq, ⟨Hz, Hsum, Hu0, Hu⟩, HO⟩ Hk
  iapply (run_dyNext c k) $$ Hfree
  iintro Hnext
  iapply (run_dyWait c k (par k.val) (4 * k.val + 3) (by omega)) $$ [Hfull HO]
  · isplitr; · iapply known_levels; iexact HK
    isplitl [Hfull]; · iexact Hfull
    iexact HO
  iintro ⟨Hd, Hback, HO⟩
  iapply (run_load dystM (rDy (par k.val)) (fun _ => rfl) squeezes_S1x128x8192_S128x8192 c (dyAt m c k)) $$ Hd
  iintro Hd
  iapply (run_loadWqAll c (wqAt m c)) $$ Hwq
  iintro Hwq
  iapply (run_load_any zsendM (r16 k) (fun _ => rfl) squeezes_S1x128x512_S128x512 c) $$ Hz
  iintro %v Hz
  iapply (run_store zsendM (r16 k) (fun _ => rfl) squeezes_S1x128x512_S128x512 c _) $$ Hz
  iintro Hz
  iapply (run_send c k 0 (4 * k.val + 3) (time0 k) (m := m) (κ := κ)) $$ [Hu0 Hz HO]
  · isplitr; · iexact HK
    isplitl [Hu0]; · iexact Hu0
    isplitl [Hz]
    · iapply (Entails.of_eq (congrArg (held c (slot16 zsendM k)) (zpart_of c k hk))); iexact Hz
    iexact HO
  iintro ⟨Hs, HO⟩
  iapply Hk
  isplitl [Hnext Hback Hd]
  · isplitl [Hnext]; · iexact Hnext
    rw [par_two]; iapply Hback; iexact Hd
  isplitl [Hwq]; · iexact Hwq
  isplitl [Hsum Hs Hu]
  · isplitl [Hsum]; · iexact Hsum
    isplitl [Hs]; · iexact Hs
    iexact Hu
  iexact HO

/-! ## The sum, and its exchange with the first peer -/

/-- A tile given another shape and given its own again is the tile. -/
theorem cast_back {s t : Shape} {α : Type} (v : s.Idx → α) (h : s.ShapeCasts t) (h' : t.ShapeCasts s) :
    shapeCast s (shapeCast t v h) h' = v := by
  funext i
  show v (Shape.reshapeEquiv _ (Shape.reshapeEquiv _ i)) = v i
  rw [Shape.reshapeEquiv_reshapeEquiv, Shape.reshapeEquiv_self]

/-- The sum that a chunk computes is the sum of the two halves. -/
theorem zsum_of (c : Dev nD) (k : Fin 16) :
    shapeCast S128x512 (k0_pay92 (k0_pay91 (lift16 (zpart m c k)) (lift16 (zpart m (zPeer c) k)))) shapeCasts_S1x128x512_S128x512 = zsum m c k := by
  unfold zsum
  exact cast_back _ _ _

/-- A chunk's second stage: the neighbour's half arrives, is added, and the sum is sent on the first hop. -/
theorem run_stageB (c : Dev nD) (k : Fin 16) {Q : PUnit → sProp 𝕄} :
    iprop(Known m κ ∗ Chunk m c k 1 ∗ Owes c (4 * k.val + 12))
      ⊢ iprop((Chunk m c k 2 ∗ Owes c (4 * k.val + 13) -∗ Q ⟨⟩) -∗ run c (stageB c k) Q) := by
  unfold stageB Chunk
  simp only [wp_bind]
  iintro ⟨#HK, ⟨Hsum, Hs, Hu1, Hu⟩, HO⟩ Hk
  iapply (run_await c k 0 (4 * k.val + 12) (by rw [time0]; omega) (m := m) (κ := κ)) $$ [Hs HO]
  · isplitr; · iexact HK
    isplitl [Hs]; · iexact Hs
    iexact HO
  rw [src0, dst0]
  iintro ⟨Hdone, Hz, Hr, HO⟩
  iapply (run_load zsendM (r16 k) (fun _ => rfl) squeezes_S1x128x512_S128x512 c (zpart m c k)) $$ Hz
  iintro Hz
  iapply (run_load zrecvM (r16 k) (fun _ => rfl) squeezes_S1x128x512_S128x512 c (zpart m (zPeer c) k)) $$ Hr
  iintro Hr
  iapply (run_load_any sumM (r16 k) (fun _ => rfl) squeezes_S1x128x512_S128x512 c) $$ Hsum
  iintro %v Hsum
  iapply (run_store sumM (r16 k) (fun _ => rfl) squeezes_S1x128x512_S128x512 c _) $$ Hsum
  iintro Hsum
  iapply (run_send c k 1 (4 * k.val + 12) (time1 k) (m := m) (κ := κ)) $$ [Hu1 Hsum HO]
  · isplitr; · iexact HK
    isplitl [Hu1]; · iexact Hu1
    isplitl [Hsum]
    · iapply (Entails.of_eq ((congrArg (held c (slot16 sumM k)) (zsum_of c k)).trans (src1 c k).symm)); iexact Hsum
    iexact HO
  iintro ⟨Hs, HO⟩
  iapply Hk
  isplitr [HO]
  · isplitl [Hz Hr Hdone]
    · isplitl [Hz]; · iapply (any_of_held c (slot16 zsendM k) (zpart m c k)); iexact Hz
      isplitl [Hr]; · iapply (any_of_held c (slot16 zrecvM k) (zpart m (zPeer c) k)); iexact Hr
      iexact Hdone
    isplitl [Hs]; · iexact Hs
    iexact Hu
  iexact HO

/-! ## The second exchange -/

/-- A chunk's third stage: the first hop arrives, and both tiles are sent on the second hop. -/
theorem run_stageC (c : Dev nD) (k : Fin 16) {Q : PUnit → sProp 𝕄} :
    iprop(Known m κ ∗ Chunk m c k 2 ∗ Owes c (4 * k.val + 21))
      ⊢ iprop((Chunk m c k 3 ∗ Owes c (4 * k.val + 23) -∗ Q ⟨⟩) -∗ run c (stageC c k) Q) := by
  unfold stageC Chunk
  simp only [wp_bind]
  iintro ⟨#HK, ⟨Hz, Hs, Hu2, Hu3, Hrows⟩, HO⟩ Hk
  iapply (run_await c k 1 (4 * k.val + 21) (by rw [time1]; omega) (m := m) (κ := κ)) $$ [Hs HO]
  · isplitr; · iexact HK
    isplitl [Hs]; · iexact Hs
    iexact HO
  rw [src1, dst1]
  iintro ⟨Hdone, Hsum, Hfirst, HO⟩
  iapply (run_send c k 2 (4 * k.val + 21) (time2 k) (m := m) (κ := κ)) $$ [Hu2 Hsum HO]
  · isplitr; · iexact HK
    isplitl [Hu2]; · iexact Hu2
    isplitl [Hsum]; · rw [src2]; iexact Hsum
    iexact HO
  iintro ⟨Hs2, HO⟩
  iapply (run_send c k 3 (4 * k.val + 22) (time3 k) (m := m) (κ := κ)) $$ [Hu3 Hfirst HO]
  · isplitr; · iexact HK
    isplitl [Hu3]; · iexact Hu3
    isplitl [Hfirst]; · rw [src3]; iexact Hfirst
    iexact HO
  iintro ⟨Hs3, HO⟩
  iapply Hk
  isplitr [HO]
  · isplitl [Hz]; · iexact Hz
    isplitl [Hdone]; · iexact Hdone
    isplitl [Hs2]; · iexact Hs2
    isplitl [Hs3]; · iexact Hs3
    iexact Hrows
  iexact HO

end Cert.KernelProof
-- ==== Proof.Assemble.lean ====
/-
# The rows of a chunk assembled

The four quarters of a chunk's rows are stored side by side in a staging slot, which is then copied out.
-/
module

public import proofs.«01_k».proof.Proof.Chunks
public import Idealize.ShloMosaic.Lib.ValueLayout
public import Idealize.ShloMosaic.Lib.ViewIndex

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Quarters of a slot -/

/-- The contents of the staging buffer with quarter `j` of slot `s` stored. -/
def put (s : Fin 2) (j : Fin 4) (w : FVec F S1x128x512 .f32) (f : outstM.view.ty.Contents (Elt F)) : outstM.view.ty.Contents (Elt F) :=
  (outstM.access (rOutQ s j)).write (Elt F) f w Finset.univ

/-- A quarter put into a slot is the quarter read from it. -/
theorem put_self (s : Fin 2) (j : Fin 4) (w : FVec F S1x128x512 .f32) (f : outstM.view.ty.Contents (Elt F)) :
    (outstM.access (rOutQ s j)).read (Elt F) (put s j w f) = w := View.read_write_univ _ _

/-- Two quarters of a slot have no element in common. -/
theorem quarter_disjoint (s : Fin 2) (j j' : Fin 4) (h : j ≠ j') : Disjoint (rOutQ s j).set (rOutQ s j').set := by
  rw [Finset.disjoint_left]
  intro y hy hy'
  rw [← Rect.map_emb_univ, Finset.mem_map] at hy hy'
  obtain ⟨x, -, rfl⟩ := hy
  obtain ⟨x', -, hx⟩ := hy'
  have h2 : 512 * j'.val + 1 * (x' 2).val = 512 * j.val + 1 * (x 2).val := congrArg Fin.val (congrFun hx 2)
  have := (x 2).isLt; have := (x' 2).isLt
  simp only [Rect.unit] at *
  have h3 : (x 2).val < 512 := (x 2).isLt
  have h4 : (x' 2).val < 512 := (x' 2).isLt
  exact h (Fin.ext (by omega))

/-- A quarter put into a slot leaves the others as they were. -/
theorem put_other (s : Fin 2) (j j' : Fin 4) (h : j ≠ j') (w : FVec F S1x128x512 .f32) (f : outstM.view.ty.Contents (Elt F)) :
    (outstM.access (rOutQ s j)).read (Elt F) (put s j' w f) = (outstM.access (rOutQ s j)).read (Elt F) f :=
  View.read_slice_write_slice_of_disjoint _ _ _ _ _ (by rw [View.setOn_univ]; exact View.disjoint_slice (quarter_disjoint s j j' h))

/-- A quarter of a slot lies in the slot. -/
theorem quarter_sub (s : Fin 2) (j : Fin 4) : (outstM.access (rOutQ s j)).set ⊆ (outSlot s).view.set := by
  rw [slot_set]
  intro y hy
  obtain ⟨x, rfl⟩ := View.exists_of_mem_set_slice hy
  have h2 : (x 2).val < 512 := (x 2).isLt
  refine Finset.mem_map.mpr ⟨ix3 (0 : Fin 1) (x 1 : Fin 128) (⟨512 * j.val + (x 2).val, by have := j.isLt; omega⟩ : Fin 2048), Finset.mem_univ _, ?_⟩
  show outstM.view.emb ((rOut s).emb _) = outstM.view.emb ((rOutQ s j).emb x)
  congr 1
  funext a
  apply Fin.ext
  have h0 : (x 0).val < 1 := (x 0).isLt
  fin_cases a
  · show s.val + 1 * 0 = s.val + 1 * (x 0).val
    omega
  · rfl
  · show 0 + 1 * (512 * j.val + (x 2).val) = 512 * j.val + 1 * (x 2).val
    omega

/-- A tile with a leading axis, read at an entry. -/
theorem lift16_apply {α : Type} (v : S128x512.Idx → α) (a : Fin 128) (b : Fin 512) : lift16 v (ix3 (0 : Fin 1) a b) = v (ix2 a b) := by
  show v (Shape.reshapeEquiv _ _) = _
  congr 1
  rw [show (ix3 (0 : Fin 1) a b : S1x128x512.Idx) = Shape.reshapeEquiv (shapeCasts_S1x128x512_S128x512) (ix2 a b) from (reshapeEquiv_ix2_1ab _ a b).symm,
    Shape.reshapeEquiv_reshapeEquiv, Shape.reshapeEquiv_self]

/-- A slot whose quarters are stored reads as the four side by side. -/
theorem slot_of_quarters (s : Fin 2) (f : outstM.view.ty.Contents (Elt F)) (v : Fin 4 → FVec F S128x512 .f32)
    (hf : ∀ j, (outstM.access (rOutQ s j)).read (Elt F) f = lift16 (v j)) :
    (outSlot s).view.read (Elt F) f = fun x : S128x2048.Idx =>
      v ⟨(x 1).val / 512, Nat.div_lt_of_lt_mul (x 1).isLt⟩ (ix2 (x 0) ⟨(x 1).val % 512, Nat.mod_lt _ (by decide)⟩) := by
  funext x
  have h1 : (x 1).val < 2048 := (x 1).isLt
  refine Eq.trans ?_ (lift16_apply (v ⟨(x 1).val / 512, Nat.div_lt_of_lt_mul h1⟩) (x 0) ⟨(x 1).val % 512, Nat.mod_lt _ (by decide)⟩)
  rw [← hf]
  rw [slot_read' outstM (rOut s) (fun _ => rfl) squeezes_S1x128x2048_S128x2048]
  have hx : (Shape.reshapeEquiv squeezes_S1x128x2048_S128x2048.numel_eq x : S1x128x2048.Idx) = ix3 (0 : Fin 1) (x 0 : Fin 128) (x 1 : Fin 2048) := by
    refine Eq.trans (congrArg _ (eq_ix2 x)) (reshapeEquiv_ix2_1ab _ _ _)
  refine Eq.trans (congrArg ((outstM.access (rOut s)).read (Elt F) f) hx) ?_
  refine congrArg (outstM.view.read (Elt F) f) (a₁ := (rOut s).emb (ix3 (0 : Fin 1) (x 0 : Fin 128) (x 1 : Fin 2048)))
    (a₂ := (rOutQ s ⟨(x 1).val / 512, Nat.div_lt_of_lt_mul h1⟩).emb (ix3 (0 : Fin 1) (x 0 : Fin 128) (⟨(x 1).val % 512, Nat.mod_lt _ (by decide)⟩ : Fin 512))) ?_
  funext a
  apply Fin.ext
  fin_cases a
  · rfl
  · rfl
  · show 0 + 1 * (x 1).val = 512 * ((x 1).val / 512) + 1 * ((x 1).val % 512)
    omega

/-! ## Whose sum goes to which quarter -/

/-- Both hops together lead to the opposite corner, whichever comes first. -/
theorem opposite (k : Fin 16) (c : Dev nD) : firstPeer k (secondPeer k c) = xPeer (yPeer c) := by revert k c; decide

/-- The device of quarter `j`: the device itself, one of its two neighbours, or the opposite corner. -/
theorem corner_eq (c : Dev nD) (j : Fin 4) :
    (![c, yPeer c, xPeer c, xPeer (yPeer c)] : Fin 4 → Dev nD) ⟨(quarter c).val ^^^ j.val, by generalize quarter c = q; revert q j; decide⟩
      = corner c j := by revert c j; decide

/-- Picking among four images is the image of the device picked. -/
theorem pick_map (q j : Fin 4) (g : Dev nD → FVec F S1x128x512 .f32) (a b c d : Dev nD) :
    pick q j (g a) (g c) (g b) (g d)
      = g ((![a, b, c, d] : Fin 4 → Dev nD) ⟨q.val ^^^ j.val, by revert q j; decide⟩) := by
  unfold pick
  generalize (⟨q.val ^^^ j.val, _⟩ : Fin 4) = i
  fin_cases i <;> rfl

variable {m : (ℓ : Loc nD τ sig) → Buf (Elt F) ℓ} {κ : Dev nD × Key → ℕ}

/-- A chunk kept with one leading axis, widened to the result's format. -/
theorem quarter16_of (v : Vec F S128x512 .bf16) :
    quarter16 (unsqueeze (r16 0) squeezes_S1x128x512_S128x512 v) = lift16 (extf .f32 v bitsLt_bf16_f32) := by
  show lift16 (extf .f32 (shapeCast S128x512 (shapeCast S1x128x512 v _) _) _) = _
  rw [cast_back]
/-- A chunk kept with two leading axes, widened to the result's format. -/
theorem quarter32_of (v : Vec F S128x512 .bf16) :
    quarter32 (unsqueeze (r32 0 0) squeezes_S1x1x128x512_S128x512 v) = lift16 (extf .f32 v bitsLt_bf16_f32) := by
  show lift16 (extf .f32 (shapeCast S128x512 (shapeCast S1x1x128x512 v _) _) _) = _
  rw [cast_back]

/-- The tile that the device writes as quarter `j` is quarter `j` of the chunk's rows. -/
theorem picked (c : Dev nD) (k : Fin 16) (j : Fin 4) :
    pick (quarter c) j (quarter16 (unsqueeze (r16 k) squeezes_S1x128x512_S128x512 (zsum m c k)))
        (quarter32 (unsqueeze (r32 k 0) squeezes_S1x1x128x512_S128x512 (zsum m (xPeer c) k)))
        (quarter32 (unsqueeze (r32 k 0) squeezes_S1x1x128x512_S128x512 (zsum m (yPeer c) k)))
        (quarter32 (unsqueeze (r32 k 1) squeezes_S1x1x128x512_S128x512 (zsum m (firstPeer k (secondPeer k c)) k)))
      = lift16 (quarterAt m c k j) := by
  have h16 := quarter16_of (zsum m c k)
  have hx := quarter32_of (zsum m (xPeer c) k)
  have hy := quarter32_of (zsum m (yPeer c) k)
  have hd := quarter32_of (zsum m (xPeer (yPeer c)) k)
  rw [opposite]
  refine Eq.trans (b := pick (quarter c) j (lift16 (extf .f32 (zsum m c k) bitsLt_bf16_f32)) (lift16 (extf .f32 (zsum m (xPeer c) k) bitsLt_bf16_f32))
    (lift16 (extf .f32 (zsum m (yPeer c) k) bitsLt_bf16_f32)) (lift16 (extf .f32 (zsum m (xPeer (yPeer c)) k) bitsLt_bf16_f32))) ?_ ?_
  · rw [← h16, ← hx, ← hy, ← hd]; rfl
  · rw [pick_map (quarter c) j (fun b => lift16 (extf .f32 (zsum m b k) bitsLt_bf16_f32)) c (yPeer c) (xPeer c) (xPeer (yPeer c)), corner_eq]
    rfl

/-! ## The stage -/

/-- The staging slot at given contents of the buffer. -/
def OutAt (c : Dev nD) (s : Fin 2) (f : outstM.view.ty.Contents (Elt F)) : sProp 𝕄 :=
  iprop((outSlot s).view.loc (c.tc : Thread nD τ) ↦[(outSlot s).view.set]{fullShare} f)

/-- Storing one quarter of a slot. -/
theorem run_putQuarter (c : Dev nD) (s : Fin 2) (j : Fin 4) (w : FVec F S1x128x512 .f32) (f : outstM.view.ty.Contents (Elt F))
    {Q : PUnit → sProp 𝕄} :
    OutAt c s f ⊢ iprop((OutAt c s (put s j w f) -∗ Q ⟨⟩) -∗ run c (putQuarter s j w) Q) := by
  unfold OutAt putQuarter storeOut
  simp only [wp_bind]
  iintro H Hk
  simp only [loadOut, Prog.lift]
  iapply (wp_load_rect 𝒱₀ (c.tc : Thread nD τ) none Set.univ (m := outstM) (r := rOutQ s j) (S := (outSlot s).view.set) (f := f) (quarter_sub s j)) $$ H
  iintro H
  rw [wp_ret]
  imodintro
  iapply (wp_store 𝒱₀ (c.tc : Thread nD τ) none Set.univ (m := outstM) (r := rOutQ s j) (S := (outSlot s).view.set) (f := f)
    (by rw [View.setOn_univ]; exact quarter_sub s j)) $$ H
  iintro H
  rw [wp_ret]
  imodintro
  iapply Hk
  iexact H

/-- The three tiles that landed and the device's own sum, as the contents that the devices sent. -/
theorem landed (c : Dev nD) (k : Fin 16) :
    iprop(held c (slot32 (firstM k) k 0) (zsum m (firstPeer k c) k) ∗ held c (slot32 (secondM k) k 0) (zsum m (secondPeer k c) k))
      ⊢ iprop(held c (slot32 xrecvM k 0) (zsum m (xPeer c) k) ∗ held c (slot32 yrecvM k 0) (zsum m (yPeer c) k)) := by
  unfold firstM secondM firstPeer secondPeer
  by_cases h : xFirst k = true
  · simp only [h, if_true]; exact .rfl
  · simp only [h]; exact sep_comm.1

/-- The waits with which the last stage of a chunk begins. -/
theorem run_stageD₁ (c : Dev nD) (k : Fin 16) {Q : PUnit → sProp 𝕄} :
    iprop(Known m κ ∗ (Sent c k 2 ∗ Sent c k 3) ∗ Owes c (4 * k.val + 31))
      ⊢ iprop((Done c k 2 ∗ Done c k 3 ∗ held c (slot16 sumM k) (zsum m c k) ∗ held c (slot32 xrecvM k 0) (zsum m (xPeer c) k)
          ∗ held c (slot32 yrecvM k 0) (zsum m (yPeer c) k)
          ∗ held c (slot32 (secondM k) k 1) (zsum m (firstPeer k (secondPeer k c)) k) ∗ Owes c (4 * k.val + 31) -∗ Q ⟨⟩)
        -∗ run c (stageD₁ k) Q) := by
  unfold stageD₁
  simp only [wp_bind]
  iintro ⟨#HK, ⟨Hs2, Hs3⟩, HO⟩ Hk
  iapply (run_await c k 2 (4 * k.val + 31) (by rw [time2]; omega) (m := m) (κ := κ)) $$ [Hs2 HO]
  · isplitr; · iexact HK
    isplitl [Hs2]; · iexact Hs2
    iexact HO
  rw [src2, dst2]
  iintro ⟨Hd2, Hsum, Hr2, HO⟩
  iapply (run_await c k 3 (4 * k.val + 31) (by rw [time3]; omega) (m := m) (κ := κ)) $$ [Hs3 HO]
  · isplitr; · iexact HK
    isplitl [Hs3]; · iexact Hs3
    iexact HO
  rw [src3, dst3]
  iintro ⟨Hd3, Hf, Hr3, HO⟩
  ihave Hxy := (landed c k (m := m)) $$ [Hf Hr2]
  · isplitl [Hf]; · iexact Hf
    iexact Hr2
  icases Hxy with ⟨Hx, Hy⟩
  iapply Hk
  isplitl [Hd2]; · iexact Hd2
  isplitl [Hd3]; · iexact Hd3
  isplitl [Hsum]; · iexact Hsum
  isplitl [Hx]; · iexact Hx
  isplitl [Hy]; · iexact Hy
  isplitl [Hr3]; · iexact Hr3
  iexact HO

/-- The four quarters are stored and the rows' copy out is started. -/
theorem run_stageD₂ (c : Dev nD) (k : Fin 16) {Q : PUnit → sProp 𝕄} :
    iprop((held c (slot16 sumM k) (zsum m c k) ∗ held c (slot32 xrecvM k 0) (zsum m (xPeer c) k)
        ∗ held c (slot32 yrecvM k 0) (zsum m (yPeer c) k) ∗ held c (slot32 (secondM k) k 1) (zsum m (firstPeer k (secondPeer k c)) k))
        ∗ OutFree c (par k.val) ∗ anyAt c (outRows k))
      ⊢ iprop(((anyAt c (slot16 sumM k) ∗ anyAt c (slot32 xrecvM k 0) ∗ anyAt c (slot32 yrecvM k 0) ∗ anyAt c (slot32 (secondM k) k 1))
            ∗ OutFull m c k (par k.val) -∗ Q ⟨⟩)
        -∗ run c (stageD₂ c k) Q) := by
  unfold stageD₂ OutFree
  simp only [wp_bind]
  iintro ⟨⟨Hsum, Hx, Hy, Hd⟩, ⟨Ho, Hv⟩, Hrows⟩ Hk
  iapply (run_load sumM (r16 k) (fun _ => rfl) squeezes_S1x128x512_S128x512 c (zsum m c k)) $$ Hsum
  iintro Hsum
  iapply (run_load xrecvM (r32 k 0) (fun _ => rfl) squeezes_S1x1x128x512_S128x512 c (zsum m (xPeer c) k)) $$ Hx
  iintro Hx
  iapply (run_load yrecvM (r32 k 0) (fun _ => rfl) squeezes_S1x1x128x512_S128x512 c (zsum m (yPeer c) k)) $$ Hy
  iintro Hy
  iapply (run_load (secondM k) (r32 k 1) (fun _ => rfl) squeezes_S1x1x128x512_S128x512 c (zsum m (firstPeer k (secondPeer k c)) k)) $$ Hd
  iintro Hd
  rw [picked c k 0, picked c k 1, picked c k 2, picked c k 3]
  ihave Ho' := (show anyAt (F := F) c (outSlot (par k.val)) ⊢ iprop(∃ f, OutAt c (par k.val) f) from .rfl) $$ Ho
  icases Ho' with ⟨%f, Ho⟩
  iapply (run_putQuarter c (par k.val) 0 _ f) $$ Ho
  iintro Ho
  iapply (run_putQuarter c (par k.val) 1 _ _) $$ Ho
  iintro Ho
  iapply (run_putQuarter c (par k.val) 2 _ _) $$ Ho
  iintro Ho
  iapply (run_putQuarter c (par k.val) 3 _ _) $$ Ho
  iintro Ho
  iapply (run_outStart c k (par k.val) (m := m)) $$ [Ho Hrows Hv]
  · isplitl [Ho]
    · unfold held owns OutAt
      iexists _
      isplitr
      · ipureintro
        exact slot_of_quarters (par k.val) (put (par k.val) 3 (lift16 (quarterAt m c k 3)) (put (par k.val) 2 (lift16 (quarterAt m c k 2))
          (put (par k.val) 1 (lift16 (quarterAt m c k 1)) (put (par k.val) 0 (lift16 (quarterAt m c k 0)) f)))) (quarterAt m c k) (fun j => by
            fin_cases j
            · rw [put_other, put_other, put_other]; exact put_self _ _ _ _
              all_goals decide
            · rw [put_other, put_other]; exact put_self _ _ _ _
              all_goals decide
            · rw [put_other]; exact put_self _ _ _ _
              decide
            · exact put_self _ _ _ _)
      iexact Ho
    isplitl [Hrows]; · iexact Hrows
    iexact Hv
  iintro HF
  iapply Hk
  isplitr [HF]
  · isplitl [Hsum]; · iapply (any_of_held c (slot16 sumM k) (zsum m c k)); iexact Hsum
    isplitl [Hx]; · iapply (any_of_held c (slot32 xrecvM k 0) (zsum m (xPeer c) k)); iexact Hx
    isplitl [Hy]; · iapply (any_of_held c (slot32 yrecvM k 0) (zsum m (yPeer c) k)); iexact Hy
    iapply (any_of_held c (slot32 (secondM k) k 1) (zsum m (firstPeer k (secondPeer k c)) k)); iexact Hd
  iexact HF

end Cert.KernelProof
-- ==== Proof.Steps.lean ====
/-
# The steps of the pipeline

At step `t` chunk `t` is multiplied, chunk `t - 2` summed, chunk `t - 4` passed on, chunk `t - 6` assembled, and the
copy out of chunk `t - 8` awaited, where there are such chunks. The phase of every chunk is the number of these
stages it has been through.
-/
module

public import proofs.«01_k».proof.Proof.Assemble

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Phases -/

/-- The phase of chunk `k` when the stages have each been run for the chunks below `a`, `b`, `e`, `d` and `w`. -/
def phase (a b e d w : ℕ) (k : Fin 16) : ℕ :=
  (if k.val < a then 1 else 0) + (if k.val < b then 1 else 0) + (if k.val < e then 1 else 0) + (if k.val < d then 1 else 0)
    + (if k.val < w then 1 else 0)

/-- Every chunk at its phase. -/
def Chunks (m : (ℓ : Loc nD τ sig) → Buf (Elt F) ℓ) (c : Dev nD) (p : Fin 16 → ℕ) : sProp 𝕄 :=
  bigSep Finset.univ fun k => Chunk m c k (p k)

variable {m : (ℓ : Loc nD τ sig) → Buf (Elt F) ℓ} {κ : Dev nD × Key → ℕ}

/-- One chunk taken out, to be put back at another phase. -/
theorem chunks_take (c : Dev nD) (p p' : Fin 16 → ℕ) (k : Fin 16) (n n' : ℕ) (hn : p k = n) (hn' : p' k = n') (h : ∀ j, j ≠ k → p' j = p j) :
    Chunks m c p ⊢ iprop(Chunk m c k n ∗ (Chunk m c k n' -∗ Chunks m c p')) := by
  subst hn hn'
  exact bigSep_univ_update (Φ := fun k => Chunk m c k (p k)) (Ψ := fun k => Chunk m c k (p' k)) k fun j hj => by
    show Chunk m c j (p' j) = Chunk m c j (p j)
    rw [h j hj]

/-! ## Places at which nothing is sent -/

/-- Nothing is due in a step without a first stage. -/
theorem skipA (c : Dev nD) (t : ℕ) (h : 16 ≤ t) (h' : t ≤ 21) : owed c (4 * t + 3) = owed c (4 * t + 4) :=
  owed_skip c _ fun x => by
    rcases x with ⟨k, i⟩ | ⟨b, d⟩
    · have := k.isLt; fin_cases i <;> simp [time] <;> omega
    · have := d.isLt; cases b <;> simp [time] <;> omega
/-- Nothing is due in a step without a second stage. -/
theorem skipB (c : Dev nD) (t : ℕ) (h : ¬ (2 ≤ t ∧ t - 2 < 16)) (h' : t ≤ 21) : owed c (4 * t + 4) = owed c (4 * t + 5) :=
  owed_skip c _ fun x => by
    rcases x with ⟨k, i⟩ | ⟨b, d⟩
    · have := k.isLt; fin_cases i <;> simp [time] <;> omega
    · have := d.isLt; cases b <;> simp [time] <;> omega
/-- Nothing is due in a step without a third stage. -/
theorem skipC (c : Dev nD) (t : ℕ) (h : ¬ (4 ≤ t ∧ t - 4 < 16)) (h' : t ≤ 21) : owed c (4 * t + 5) = owed c (4 * t + 7) :=
  (owed_skip c _ fun x => by
    rcases x with ⟨k, i⟩ | ⟨b, d⟩
    · have := k.isLt; fin_cases i <;> simp [time] <;> omega
    · have := d.isLt; cases b <;> simp [time] <;> omega).trans
  (owed_skip c _ fun x => by
    rcases x with ⟨k, i⟩ | ⟨b, d⟩
    · have := k.isLt; fin_cases i <;> simp [time] <;> omega
    · have := d.isLt; cases b <;> simp [time] <;> omega)
/-- Nothing is due between the last message and the last barrier. -/
theorem skipEnd (c : Dev nD) (n : ℕ) (h : 91 ≤ n) (h' : n < 100) : owed c n = owed c (n + 1) :=
  owed_skip c _ fun x => by
    rcases x with ⟨k, i⟩ | ⟨b, d⟩
    · have := k.isLt; fin_cases i <;> simp [time] <;> omega
    · have := d.isLt; cases b <;> simp [time] <;> omega

/-- Owing the same debts is the same. -/
theorem owes_eq (c : Dev nD) (n n' : ℕ) (h : owed c n = owed c n') : Owes (F := F) c n ⊢ Owes c n' := by
  unfold Owes; rw [h]

/-! ## The staging slots of the result -/

/-- The slot chunk `n` will use: being copied out for the chunk two before, if there is one. -/
def OutBefore (m : (ℓ : Loc nD τ sig) → Buf (Elt F) ℓ) (c : Dev nD) (n : ℕ) : sProp 𝕄 :=
  if h : 2 ≤ n ∧ n - 2 < 16 then OutFull m c ⟨n - 2, h.2⟩ (par n) else OutFree c (par n)
/-- Both slots, chunk `n` the next to be assembled. -/
def OutSlots (m : (ℓ : Loc nD τ sig) → Buf (Elt F) ℓ) (c : Dev nD) (n : ℕ) : sProp 𝕄 := iprop(OutBefore m c n ∗ OutBefore m c (n + 1))

/-- The rows of the chunk two before, if there is one. -/
def Rows (m : (ℓ : Loc nD τ sig) → Buf (Elt F) ℓ) (c : Dev nD) (k : Fin 16) : sProp 𝕄 :=
  if h : 2 ≤ k.val then held c (outRows ⟨k.val - 2, by omega⟩) (rowsAt m c ⟨k.val - 2, by omega⟩) else iprop(emp)

/-- The slot is freed before it is used again. -/
theorem run_outFree (c : Dev nD) (k : Fin 16) (n : ℕ) (hn : 0 < n) {Q : PUnit → sProp 𝕄} :
    iprop(levAts L lv ∗ OutBefore m c k.val ∗ Owes c n)
      ⊢ iprop((Rows m c k ∗ OutFree c (par k.val) ∗ Owes c n -∗ Q ⟨⟩) -∗ run c (outFree k) Q) := by
  have hk := k.isLt
  unfold outFree OutBefore Rows
  by_cases h : 2 ≤ k.val
  · rw [dif_pos h, dif_pos h, dif_pos ⟨h, by omega⟩]
    exact run_outWait c _ _ n hn
  · rw [dif_neg h, dif_neg h, dif_neg fun h' => h h'.1]
    iintro ⟨-, Hf, HO⟩ Hk
    iapply (run_pure c)
    iapply Hk
    isplitr; · iempintro
    isplitl [Hf]; · iexact Hf
    iexact HO

/-- The assembled chunk's place in the two slots. -/
theorem out_next (c : Dev nD) (k : Fin 16) : OutFull m c k (par k.val) ⊢ OutBefore m c (k.val + 2) := by
  have hk := k.isLt
  unfold OutBefore
  rw [dif_pos ⟨by omega, by omega⟩, par_two]
  exact .rfl

/-! ## The stages at a step -/

/-- The first stage's part of a step. -/
theorem run_atA (c : Dev nD) (t b e d w : ℕ) (ht : 1 ≤ t) (ht' : t ≤ 21) (hb : b ≤ t) (he : e ≤ t) (hd : d ≤ t) (hw : w ≤ t) {Q : PUnit → sProp 𝕄} :
    iprop(Known m κ ∗ (DyS m c (min t 16) ∗ held c wqM (wqAt m c)) ∗ Chunks m c (phase t b e d w) ∗ Owes c (4 * t + 3))
      ⊢ iprop(((DyS m c (min (t + 1) 16) ∗ held c wqM (wqAt m c)) ∗ Chunks m c (phase (t + 1) b e d w) ∗ Owes c (4 * t + 4) -∗ Q ⟨⟩)
        -∗ run c (at_ (stageA c) 0 t) Q) := by
  unfold at_
  by_cases h : t < 16
  · rw [dif_pos ⟨Nat.zero_le _, h⟩, show min t 16 = t by omega, show min (t + 1) 16 = t + 1 by omega]
    iintro ⟨#HK, ⟨Hdy, Hwq⟩, HC, HO⟩ Hk
    ihave HC2 := (chunks_take c (phase t b e d w) (phase (t + 1) b e d w) ⟨t, h⟩ 0 1
      (by unfold phase; dsimp only; split_ifs <;> omega) (by unfold phase; dsimp only; split_ifs <;> omega) (fun j hj => by
        have hj' : j.val ≠ t := fun h' => hj (Fin.ext h')
        unfold phase; congr 4; exact if_congr (by omega) rfl rfl) (m := m)) $$ HC
    icases HC2 with ⟨HC, Hback⟩
    iapply (run_stageA c ⟨t, h⟩ (by simp [Fin.ext_iff]; omega) (m := m) (κ := κ)) $$ [Hdy Hwq HC HO]
    · isplitr; · iexact HK
      isplitl [Hdy]; · iexact Hdy
      isplitl [Hwq]; · iexact Hwq
      isplitl [HC]; · iexact HC
      iexact HO
    iintro ⟨Hdy, Hwq, HC, HO⟩
    iapply Hk
    isplitl [Hdy Hwq]
    · isplitl [Hdy]; · iexact Hdy
      iexact Hwq
    isplitl [HC Hback]; · iapply Hback; iexact HC
    iexact HO
  · rw [dif_neg fun h' => h h'.2, show min t 16 = 16 by omega, show min (t + 1) 16 = 16 by omega]
    have hp : phase t b e d w = phase (t + 1) b e d w := by
      funext k; have := k.isLt
      unfold phase; congr 4; exact if_congr (by omega) rfl rfl
    rw [hp]
    iintro ⟨-, Hdy, HC, HO⟩ Hk
    iapply (run_pure c)
    iapply Hk
    isplitl [Hdy]; · iexact Hdy
    isplitl [HC]; · iexact HC
    iapply (owes_eq c _ _ (skipA c t (by omega) ht')); iexact HO

/-- The second stage's part of a step. -/
theorem run_atB (c : Dev nD) (t : ℕ) (ht' : t ≤ 21) {Q : PUnit → sProp 𝕄} :
    iprop(Known m κ ∗ Chunks m c (phase (t + 1) (t - 2) (t - 4) (t - 6) (t - 8)) ∗ Owes c (4 * t + 4))
      ⊢ iprop((Chunks m c (phase (t + 1) (t - 1) (t - 4) (t - 6) (t - 8)) ∗ Owes c (4 * t + 5) -∗ Q ⟨⟩)
        -∗ run c (at_ (stageB c) 2 t) Q) := by
  unfold at_
  by_cases h : 2 ≤ t ∧ t - 2 < 16
  · rw [dif_pos h]
    iintro ⟨#HK, HC, HO⟩ Hk
    ihave HC2 := (chunks_take c (phase (t + 1) (t - 2) (t - 4) (t - 6) (t - 8)) (phase (t + 1) (t - 1) (t - 4) (t - 6) (t - 8)) ⟨t - 2, h.2⟩ 1 2
      (by unfold phase; dsimp only; split_ifs <;> omega) (by unfold phase; dsimp only; split_ifs <;> omega) (fun j hj => by
        have hj' : j.val ≠ t - 2 := fun h' => hj (Fin.ext h')
        unfold phase; congr 4; exact if_congr (by omega) rfl rfl) (m := m)) $$ HC
    icases HC2 with ⟨HC, Hback⟩
    iapply (run_stageB c ⟨t - 2, h.2⟩ (m := m) (κ := κ)) $$ [HC HO]
    · isplitr; · iexact HK
      isplitl [HC]; · iexact HC
      iapply (owes_eq c _ _ (congrArg (owed c) (show 4 * t + 4 = 4 * (t - 2) + 12 by omega))); iexact HO
    iintro ⟨HC, HO⟩
    iapply Hk
    isplitl [HC Hback]; · iapply Hback; iexact HC
    iapply (owes_eq c _ _ (congrArg (owed c) (show 4 * (t - 2) + 13 = 4 * t + 5 by omega))); iexact HO
  · rw [dif_neg h]
    have hp : phase (t + 1) (t - 2) (t - 4) (t - 6) (t - 8) = phase (t + 1) (t - 1) (t - 4) (t - 6) (t - 8) := by
      funext k; have := k.isLt
      unfold phase; congr 4; exact if_congr (by omega) rfl rfl
    rw [hp]
    iintro ⟨-, HC, HO⟩ Hk
    iapply (run_pure c)
    iapply Hk
    isplitl [HC]; · iexact HC
    iapply (owes_eq c _ _ (skipB c t h ht')); iexact HO

/-- The third stage's part of a step. -/
theorem run_atC (c : Dev nD) (t : ℕ) (ht' : t ≤ 21) {Q : PUnit → sProp 𝕄} :
    iprop(Known m κ ∗ Chunks m c (phase (t + 1) (t - 1) (t - 4) (t - 6) (t - 8)) ∗ Owes c (4 * t + 5))
      ⊢ iprop((Chunks m c (phase (t + 1) (t - 1) (t - 3) (t - 6) (t - 8)) ∗ Owes c (4 * t + 7) -∗ Q ⟨⟩)
        -∗ run c (at_ (stageC c) 4 t) Q) := by
  unfold at_
  by_cases h : 4 ≤ t ∧ t - 4 < 16
  · rw [dif_pos h]
    iintro ⟨#HK, HC, HO⟩ Hk
    ihave HC2 := (chunks_take c (phase (t + 1) (t - 1) (t - 4) (t - 6) (t - 8)) (phase (t + 1) (t - 1) (t - 3) (t - 6) (t - 8)) ⟨t - 4, h.2⟩ 2 3
      (by unfold phase; dsimp only; split_ifs <;> omega) (by unfold phase; dsimp only; split_ifs <;> omega) (fun j hj => by
        have hj' : j.val ≠ t - 4 := fun h' => hj (Fin.ext h')
        unfold phase; congr 3; exact if_congr (by omega) rfl rfl) (m := m)) $$ HC
    icases HC2 with ⟨HC, Hback⟩
    iapply (run_stageC c ⟨t - 4, h.2⟩ (m := m) (κ := κ)) $$ [HC HO]
    · isplitr; · iexact HK
      isplitl [HC]; · iexact HC
      iapply (owes_eq c _ _ (congrArg (owed c) (show 4 * t + 5 = 4 * (t - 4) + 21 by omega))); iexact HO
    iintro ⟨HC, HO⟩
    iapply Hk
    isplitl [HC Hback]; · iapply Hback; iexact HC
    iapply (owes_eq c _ _ (congrArg (owed c) (show 4 * (t - 4) + 23 = 4 * t + 7 by omega))); iexact HO
  · rw [dif_neg h]
    have hp : phase (t + 1) (t - 1) (t - 4) (t - 6) (t - 8) = phase (t + 1) (t - 1) (t - 3) (t - 6) (t - 8) := by
      funext k; have := k.isLt
      unfold phase; congr 3; exact if_congr (by omega) rfl rfl
    rw [hp]
    iintro ⟨-, HC, HO⟩ Hk
    iapply (run_pure c)
    iapply Hk
    isplitl [HC]; · iexact HC
    iapply (owes_eq c _ _ (skipC c t h ht')); iexact HO

/-- The chunk two before is put back with its rows copied out. -/
theorem rows_back (c : Dev nD) (k : Fin 16) (a b e d w w' : ℕ) (hw : w = k.val - 2) (hw' : w' = k.val - 1)
    (ha : k.val < a) (hb : k.val < b) (he : k.val < e) (hd : k.val < d) :
    iprop(Rows m c k ∗ Chunks m c (phase a b e d w)) ⊢ Chunks m c (phase a b e d w') := by
  have hk := k.isLt
  unfold Rows
  by_cases h : 2 ≤ k.val
  · rw [dif_pos h]
    iintro ⟨HR, HC⟩
    ihave HC2 := (chunks_take c (phase a b e d w) (phase a b e d w') ⟨k.val - 2, by omega⟩ 4 5
      (by unfold phase; rw [if_pos (show k.val - 2 < a by omega), if_pos (show k.val - 2 < b by omega), if_pos (show k.val - 2 < e by omega),
            if_pos (show k.val - 2 < d by omega), if_neg (show ¬ k.val - 2 < w by omega)])
      (by unfold phase; rw [if_pos (show k.val - 2 < a by omega), if_pos (show k.val - 2 < b by omega), if_pos (show k.val - 2 < e by omega),
            if_pos (show k.val - 2 < d by omega), if_pos (show k.val - 2 < w' by omega)])
      (fun j hj => by
        have hj' : j.val ≠ k.val - 2 := fun h' => hj (Fin.ext h')
        unfold phase; congr 1; exact if_congr (by omega) rfl rfl) (m := m)) $$ HC
    icases HC2 with ⟨HC, Hback⟩
    iapply Hback
    unfold Chunk
    icases HC with ⟨Hz, H1, H2, H3, Hrest⟩
    isplitl [Hz]; · iexact Hz
    isplitl [H1]; · iexact H1
    isplitl [H2]; · iexact H2
    isplitl [H3]; · iexact H3
    isplitl [Hrest]; · iexact Hrest
    iexact HR
  · rw [dif_neg h]
    have hp : phase a b e d w = phase a b e d w' := by
      funext j; unfold phase; congr 1; exact if_congr (by omega) rfl rfl
    rw [hp]
    iintro ⟨-, HC⟩; iexact HC

/-- The last stage's part of a step. -/
theorem run_atD (c : Dev nD) (t : ℕ) (ht' : t ≤ 21) {Q : PUnit → sProp 𝕄} :
    iprop(Known m κ ∗ OutSlots m c (t - 6) ∗ Chunks m c (phase (t + 1) (t - 1) (t - 3) (t - 6) (t - 8)) ∗ Owes c (4 * t + 7))
      ⊢ iprop((OutSlots m c (t - 5) ∗ Chunks m c (phase (t + 1) (t - 1) (t - 3) (t - 5) (t - 7)) ∗ Owes c (4 * t + 7) -∗ Q ⟨⟩)
        -∗ run c (at_ (stageD c) 6 t) Q) := by
  unfold at_
  by_cases h : 6 ≤ t ∧ t - 6 < 16
  · rw [dif_pos h]
    unfold stageD OutSlots
    simp only [wp_bind]
    iintro ⟨#HK, ⟨Hb, Hb'⟩, HC, HO⟩ Hk
    ihave HC2 := (chunks_take c (phase (t + 1) (t - 1) (t - 3) (t - 6) (t - 8)) (phase (t + 1) (t - 1) (t - 3) (t - 5) (t - 8)) ⟨t - 6, h.2⟩ 3 4
      (by unfold phase; dsimp only; split_ifs <;> omega) (by unfold phase; dsimp only; split_ifs <;> omega) (fun j hj => by
        have hj' : j.val ≠ t - 6 := fun h' => hj (Fin.ext h')
        unfold phase; congr 2; exact if_congr (by omega) rfl rfl) (m := m)) $$ HC
    icases HC2 with ⟨HC, Hback⟩
    unfold Chunk
    icases HC with ⟨Hz, H1, Hs2, Hs3, Hrows⟩
    iapply (run_stageD₁ c ⟨t - 6, h.2⟩ (m := m) (κ := κ)) $$ [Hs2 Hs3 HO]
    · isplitr; · iexact HK
      isplitl [Hs2 Hs3]
      · isplitl [Hs2]; · iexact Hs2
        iexact Hs3
      iapply (owes_eq c _ _ (congrArg (owed c) (show 4 * t + 7 = 4 * (t - 6) + 31 by omega))); iexact HO
    iintro ⟨H2, H3, Hsum, Hx, Hy, Hd, HO⟩
    iapply (run_outFree c ⟨t - 6, h.2⟩ (4 * (t - 6) + 31) (by omega) (m := m)) $$ [Hb HO]
    · isplitr; · iapply known_levels; iexact HK
      isplitl [Hb]; · iexact Hb
      iexact HO
    iintro ⟨HR, Hfree, HO⟩
    iapply (run_stageD₂ c ⟨t - 6, h.2⟩ (m := m)) $$ [Hsum Hx Hy Hd Hfree Hrows]
    · isplitl [Hsum Hx Hy Hd]
      · isplitl [Hsum]; · iexact Hsum
        isplitl [Hx]; · iexact Hx
        isplitl [Hy]; · iexact Hy
        iexact Hd
      isplitl [Hfree]; · iexact Hfree
      iexact Hrows
    iintro ⟨Hany, HF⟩
    iapply Hk
    rw [show t - 5 = t - 6 + 1 by omega]
    isplitl [Hb' HF]
    · isplitl [Hb']; · iexact Hb'
      iapply (out_next c ⟨t - 6, h.2⟩ (m := m)); iexact HF
    isplitl [HR Hback Hz H1 H2 H3 Hany]
    · iapply (rows_back c ⟨t - 6, h.2⟩ (t + 1) (t - 1) (t - 3) (t - 6 + 1) (t - 8) (t - 7) (by dsimp only; omega) (by dsimp only; omega)
        (by dsimp only; omega) (by dsimp only; omega) (by dsimp only; omega) (by dsimp only; omega) (m := m))
      isplitl [HR]; · iexact HR
      rw [show t - 6 + 1 = t - 5 by omega]
      iapply Hback
      isplitl [Hz]; · iexact Hz
      isplitl [H1]; · iexact H1
      isplitl [H2]; · iexact H2
      isplitl [H3]; · iexact H3
      iexact Hany
    iapply (owes_eq c _ _ (congrArg (owed c) (show 4 * (t - 6) + 31 = 4 * t + 7 by omega))); iexact HO
  · rw [dif_neg h, show t - 6 = 0 by omega, show t - 5 = 0 by omega, show t - 7 = 0 by omega, show t - 8 = 0 by omega]
    iintro ⟨-, Ho, HC, HO⟩ Hk
    iapply (run_pure c)
    iapply Hk
    isplitl [Ho]; · iexact Ho
    isplitl [HC]; · iexact HC
    iexact HO

/-! ## The loop -/

/-- What a device holds after step `t`. -/
def Between (m : (ℓ : Loc nD τ sig) → Buf (Elt F) ℓ) (c : Dev nD) (t : ℕ) : sProp 𝕄 :=
  iprop((DyS m c (min (t + 1) 16) ∗ held c wqM (wqAt m c)) ∗ OutSlots m c (t - 5)
    ∗ Chunks m c (phase (t + 1) (t - 1) (t - 3) (t - 5) (t - 7)) ∗ Owes c (4 * t + 7))

/-- One step of the pipeline. -/
theorem run_step (c : Dev nD) (t : ℕ) (ht : t < 21) {Q : PUnit → sProp 𝕄} :
    iprop(Known m κ ∗ Between m c t) ⊢ iprop((Between m c (t + 1) -∗ Q ⟨⟩) -∗ run c (step c (t + 1)) Q) := by
  unfold step Between
  simp only [wp_bind]
  iintro ⟨#HK, Hdy, Ho, HC, HO⟩ Hk
  iapply (run_atA c (t + 1) (t - 1) (t - 3) (t - 5) (t - 7) (by omega) (by omega) (by omega) (by omega) (by omega) (by omega) (m := m) (κ := κ)) $$ [Hdy HC HO]
  · isplitr; · iexact HK
    isplitl [Hdy]; · iexact Hdy
    isplitl [HC]; · iexact HC
    iexact HO
  iintro ⟨Hdy, HC, HO⟩
  iapply (run_atB c (t + 1) (by omega) (m := m) (κ := κ)) $$ [HC HO]
  · isplitr; · iexact HK
    isplitl [HC]
    · rw [show t + 1 - 2 = t - 1 by omega, show t + 1 - 4 = t - 3 by omega, show t + 1 - 6 = t - 5 by omega, show t + 1 - 8 = t - 7 by omega]
      iexact HC
    iexact HO
  iintro ⟨HC, HO⟩
  iapply (run_atC c (t + 1) (by omega) (m := m) (κ := κ)) $$ [HC HO]
  · isplitr; · iexact HK
    isplitl [HC]; · iexact HC
    iexact HO
  iintro ⟨HC, HO⟩
  iapply (run_atD c (t + 1) (by omega) (m := m) (κ := κ)) $$ [Ho HC HO]
  · isplitr; · iexact HK
    isplitl [Ho]; · rw [show t + 1 - 6 = t - 5 by omega]; iexact Ho
    isplitl [HC]; · iexact HC
    iexact HO
  iintro ⟨Ho, HC, HO⟩
  iapply Hk
  isplitl [Hdy]; · iexact Hdy
  isplitl [Ho]; · iexact Ho
  isplitl [HC]; · iexact HC
  iexact HO

/-- The first `n` steps of the pipeline. -/
theorem run_steps (c : Dev nD) (n : ℕ) (hn : n ≤ 21) {Q : PUnit → sProp 𝕄} :
    iprop(Known m κ ∗ Between m c 0) ⊢ iprop((Between m c n -∗ Q ⟨⟩) -∗ run c (steps c n) Q) := by
  induction n generalizing Q with
  | zero =>
    iintro ⟨-, H⟩ Hk
    iapply (run_pure c)
    iapply Hk; iexact H
  | succ n ih =>
    unfold steps
    simp only [wp_bind]
    iintro ⟨#HK, H⟩ Hk
    iapply (ih (by omega)) $$ [H]
    · isplitr; · iexact HK
      iexact H
    iintro H
    iapply (run_step c n (by omega) (m := m) (κ := κ)) $$ [H]
    · isplitr; · iexact HK
      iexact H
    iexact Hk

end Cert.KernelProof
-- ==== Proof.Operand.lean ====
/-
# The right operand taken in

Tiles of the right operand come through a double buffer of their own; each is rounded, transposed and stored under the
tiles before it. The four stored tiles are the transposed operand the later chunks multiply by.
-/
module

public import proofs.«01_k».proof.Proof.Steps
public import Idealize.ShloMosaic.Lib.Ring

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The double buffer -/

/-- The units of a copy of a tile into a slot. -/
def wUnits : ℕ := (wSlot 0).view.dmaCredit
/-- A copy of a tile of the right operand is of a positive amount. -/
theorem wUnits_pos : 0 < wUnits := View.dmaCredit_pos _ (by decide)
/-- The amount is the same for both slots. -/
theorem wUnits_eq (s : Fin 2) : (wSlot s).view.dmaCredit = wUnits := rfl

/-- The copies of the right operand are waited for below everything that is owed. -/
theorem wSem_low (c : Dev nD) (s : Fin 2) : lv ((c.tc : Thread nD τ), .dma (sem2 cc0_scratch9 s)) () = 0 :=
  lv_local c _ (by revert s; decide)

variable (m : (ℓ : Loc nD τ sig) → Buf (Elt F) ℓ)

/-- A slot no copy fills. -/
def WFree (c : Dev nD) (s : Fin 2) : sProp 𝕄 :=
  iprop(anyAt c (wSlot s) ∗ semVal ((c.tc : Thread nD τ), .dma (sem2 cc0_scratch9 s)) 0
    ∗ (wM.view.loc (c.tc : Thread nD τ) ↦[Finset.univ]{half s} m (c.tc.loc main_arg1)))
/-- A slot being filled with tile `i` of the device's quarter. -/
def WFull (c : Dev nD) (i : Fin 4) (s : Fin 2) : sProp 𝕄 :=
  Fetch c (wTile (quarter c) i) (wSlot s) (sem2 cc0_scratch9 s) wUnits (half s) (m (c.tc.loc main_arg1))

variable {m} {κ : Dev nD × Key → ℕ}

/-- Starting the copy of a tile into a slot. -/
theorem run_wStart (c : Dev nD) (i : Fin 4) (s : Fin 2) {Q : PUnit → sProp 𝕄} :
    WFree m c s ⊢ iprop((WFull m c i s -∗ Q ⟨⟩) -∗ run c (wStart (quarter c) i s) Q) := by
  unfold WFree WFull wStart
  iintro ⟨Ha, Hv, Hs⟩ Hk
  iapply (run_fetch c (wTile (quarter c) i) (wSlot s) (sem2 cc0_scratch9 s) wUnits (wUnits_eq s) wUnits_pos (q := half s) (fs := m (c.tc.loc main_arg1))) $$ [Ha Hv Hs]
  · isplitl [Hs]; · iexact Hs
    isplitl [Ha]; · iexact Ha
    iexact Hv
  iexact Hk

/-! ## A tile stored -/

/-- Tile `i` of the transposed operand's buffer. -/
abbrev wqTile (i : Fin 4) : Memref sig .tc .vmem S2048x512 .bf16 := wqM.slice (rWq i) (fun _ => rfl)

/-- Tile `i`: its copy awaited, the tile loaded, and its transpose stored. -/
theorem run_takeTile (c : Dev nD) (i : Fin 4) (s : Fin 2) (n : ℕ) (hn : 0 < n) {Q : Vec F S1x512x2048 .f32 → sProp 𝕄} :
    iprop(levAts L lv ∗ WFull m c i s ∗ anyAt (F := F) c (wqTile i) ∗ Owes c n)
      ⊢ iprop((held c (wqTile i) (wTrans m c i) ∗ WFree m c s ∗ Owes c n -∗ Q (liftW (wAt m c i)))
        -∗ run c (wWait (quarter c) i s) (fun _ => run c (loadW s) (fun w => run c (tileIn i w) (fun _ => Q w)))) := by
  unfold WFree WFull wWait tileIn
  simp only [wp_bind]
  iintro ⟨Hl, HF, Hq, HO⟩ Hk
  iapply (run_fetched c (wTile (quarter c) i) (wSlot s) (sem2 cc0_scratch9 s) wUnits (wUnits_eq s) n (by rw [wSem_low]; exact hn)) $$ [Hl HF HO]
  · isplitl [Hl]; · iexact Hl
    isplitl [HF]; · iexact HF
    iexact HO
  iintro ⟨Hd, Hs, Hv, HO⟩
  ihave Hd := (show held c (wSlot s) ((wTile (quarter c) i).view.read (Elt F) (m (c.tc.loc main_arg1)))
    ⊢ held c (wSlot s) (wAt m c i) from .rfl) $$ Hd
  iapply (run_load wstM (rW s) (fun _ => rfl) squeezes_S1x512x2048_S512x2048 c (wAt m c i)) $$ Hd
  iintro Hd
  iapply (run_load_plain wqM (rWq i) (fun _ => rfl) c) $$ Hq
  iintro %v Hq
  iapply (run_store_plain wqM (rWq i) (fun _ => rfl) c _) $$ Hq
  iintro Hq
  iapply (show Q (liftW (wAt m c i)) ⊢ Q (unsqueeze (rW s) squeezes_S1x512x2048_S512x2048 (wAt m c i)) from .rfl)
  iapply Hk
  isplitl [Hq]; · iexact Hq
  isplitr [HO]
  · isplitl [Hd]; · iapply (any_of_held c (wSlot s) (wAt m c i)); iexact Hd
    isplitl [Hv]; · iexact Hv
    iexact Hs
  iexact HO

/-! ## The four tiles together -/

/-- Two tiles of the transposed operand have no row in common. -/
theorem wq_disjoint (i j : Fin 4) (h : i ≠ j) : Disjoint (rWq i).set (rWq j).set :=
  Ring.lead_disjoint (s := S8192x512) 0 2048 (fun i : Fin 4 => ![2048 * i.val, 0]) S2048x512.size inbWq (fun _ => rfl) rfl i j h

/-- The four tiles are all of it. -/
theorem wq_cover : (Finset.univ : Finset (Fin 4)).biUnion (fun i => (rWq i).set) = Finset.univ :=
  Ring.lead_cover (s := S8192x512) 0 2048 (fun i : Fin 4 => ![2048 * i.val, 0]) S2048x512.size inbWq (fun _ => rfl)
    (fun _ a ha => by fin_cases a; · exact absurd rfl ha
                      · rfl) rfl
    (fun a ha => by fin_cases a; · exact absurd rfl ha
                    · rfl) rfl

/-- The transposed operand read at tile `i` is the transpose of tile `i`. -/
theorem wqAt_tile (c : Dev nD) (i : Fin 4) : (fun x => wqAt m c ((rWq i).emb x)) = wTrans m c i := by
  funext x
  have h0 : (x 0).val < 2048 := (x 0).isLt
  have e0 : ((rWq i).emb x 0).val = 2048 * i.val + 1 * (x 0).val := rfl
  have e1 : (rWq i).emb x 1 = x 1 := Fin.ext (by show 0 + 1 * (x 1).val = (x 1).val; omega)
  unfold wqAt
  have hi : (⟨((rWq i).emb x 0).val / 2048, Nat.div_lt_of_lt_mul ((rWq i).emb x 0).isLt⟩ : Fin 4) = i :=
    Fin.ext (by show ((rWq i).emb x 0).val / 2048 = i.val; omega)
  have hx : (ix2 ⟨((rWq i).emb x 0).val % 2048, Nat.mod_lt _ (by decide)⟩ ((rWq i).emb x 1) : S2048x512.Idx) = x := by
    refine Eq.trans ?_ (eq_ix2 (n0 := 2048) (n1 := 512) x).symm
    rw [e1]
    congr 1
    exact Fin.ext (by show ((rWq i).emb x 0).val % 2048 = (x 0).val; omega)
  rw [hi]
  exact congrArg (wTrans m c i) hx

/-- The transposed operand's buffer as four tiles, their contents not known. -/
theorem wq_split (c : Dev nD) : anyAt (F := F) c wqM ⊢ bigSep Finset.univ fun i : Fin 4 => anyAt (F := F) c (wqTile i) := by
  unfold anyAt
  iintro ⟨%f, H⟩
  ihave H2 := (Entails.of_eq (pointsTo_rects (c.tc : Thread nD τ) wqM fullShare rWq (fun _ _ => rfl) wq_disjoint wq_cover f)) $$ H
  iapply (show (bigSep Finset.univ fun i : Fin 4 => owns (c.tc : Thread nD τ) (wqTile i) fullShare (fun j => wqM.view.read (Elt F) f ((rWq i).emb j)))
    ⊢ bigSep Finset.univ fun i : Fin 4 => anyAt (F := F) c (wqTile i) from bigSep_mono fun i _ => any_of_held c (wqTile i) _)
  iexact H2

/-- The four transposed tiles are the transposed operand. -/
theorem wq_join [∀ e, Nonempty (Elt F e)] (c : Dev nD) :
    (bigSep Finset.univ fun i : Fin 4 => held c (wqTile i) (wTrans m c i)) ⊢ held c wqM (wqAt m c) := by
  refine (bigSep_mono fun i _ => ?_).trans (owns_of_rects (c.tc : Thread nD τ) wqM fullShare rWq (fun _ _ => rfl) wq_disjoint wq_cover (wqAt m c))
  exact Entails.of_eq (congrArg (held c (wqTile i)) (wqAt_tile c i).symm)

end Cert.KernelProof
-- ==== Proof.Prologue.lean ====
/-
# The prologue

A device starts its first copies, greets its peers and lends them the tiles their messages go to, takes the right
operand in tile by tile while it accumulates its first partial product, and sends that.
-/
module

public import proofs.«01_k».proof.Proof.Operand

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The tiles lent -/

/-- A product over three places, written out. -/
theorem three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl
/-- A product over four places, written out. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

/-- Something per message, dealt out by the direction the message goes. -/
theorem by_direction (A : Fin 3 → Fin 16 × Fin 4 → sProp 𝕄) :
    (bigSep Finset.univ fun d : Fin 3 => bigSep Finset.univ fun p : Fin 16 × Fin 4 => if dir p.1 p.2 = d then A d p else iprop(emp))
      = bigSep Finset.univ fun p : Fin 16 × Fin 4 => A (dir p.1 p.2) p := by
  rw [three, ← bigSep_sep', ← bigSep_sep']
  refine congrArg (bigSep Finset.univ) (funext fun p => ?_)
  generalize dir p.1 p.2 = d
  have e1 (X : sProp 𝕄) : iprop(X ∗ emp) = X := BI.equiv_iff.mp BI.sep_emp
  have e2 (X : sProp 𝕄) : iprop(emp ∗ X) = X := BI.equiv_iff.mp BI.emp_sep
  fin_cases d <;> simp [e1, e2]

/-- Something per message, chunk by chunk. -/
theorem by_chunk (A : Fin 16 → Fin 4 → sProp 𝕄) :
    (bigSep Finset.univ fun p : Fin 16 × Fin 4 => A p.1 p.2)
      = bigSep Finset.univ fun k : Fin 16 => iprop(A k 0 ∗ A k 1 ∗ A k 2 ∗ A k 3) := by
  rw [bigSep_univ_prod]
  exact congrArg (bigSep Finset.univ) (funext fun k => four _)

/-- A device's own landing tiles are what it lends its peers; -/
theorem lend (m : (ℓ : Loc nD τ sig) → Buf (Elt F) ℓ) (c : Dev nD) :
    (bigSep Finset.univ fun k : Fin 16 => iprop(anyAt (F := F) c (dstOf k 0) ∗ anyAt (F := F) c (dstOf k 1) ∗ anyAt (F := F) c (dstOf k 2) ∗ anyAt (F := F) c (dstOf k 3)))
      = bigSep Finset.univ fun d : Fin 3 => pay m (peer d c, .inr false) d := by
  rw [← by_chunk fun k i => anyAt (F := F) c (dstOf k i), ← by_direction fun _ p => anyAt (F := F) c (dstOf p.1 p.2)]
  refine congrArg (bigSep Finset.univ) (funext fun d => ?_)
  show _ = lent (peer d c) d
  unfold lent
  rw [peer_peer]

/-- and what its peers lend it are the tiles its messages go to. -/
theorem borrowed (m : (ℓ : Loc nD τ sig) → Buf (Elt F) ℓ) (c : Dev nD) :
    (bigSep Finset.univ fun d : Fin 3 => pay m (c, .inr false) d)
      = bigSep Finset.univ fun k : Fin 16 => iprop(anyAt (F := F) (target k 0 c) (dstOf k 0) ∗ anyAt (F := F) (target k 1 c) (dstOf k 1)
          ∗ anyAt (F := F) (target k 2 c) (dstOf k 2) ∗ anyAt (F := F) (target k 3 c) (dstOf k 3)) := by
  rw [← by_chunk fun k i => anyAt (F := F) (target k i c) (dstOf k i)]
  refine (by_direction fun d p => anyAt (F := F) (peer d c) (dstOf p.1 p.2)).trans ?_
  refine congrArg (bigSep Finset.univ) (funext fun p => ?_)
  rw [target_eq]

/-- What a device has of a chunk before it has met its peers. -/
def Fresh (c : Dev nD) (k : Fin 16) : sProp 𝕄 :=
  iprop(anyAt (F := F) c (slot16 zsendM k) ∗ anyAt (F := F) c (slot16 sumM k)
    ∗ (Tokens (F := F) c k 0 ∗ Tokens (F := F) c k 1 ∗ Tokens (F := F) c k 2 ∗ Tokens (F := F) c k 3) ∗ anyAt (F := F) c (outRows k))

variable {m : (ℓ : Loc nD τ sig) → Buf (Elt F) ℓ} {κ : Dev nD × Key → ℕ}

/-- With the tiles its peers lend it, it can send. -/
theorem chunks_ready (c : Dev nD) :
    iprop((bigSep Finset.univ fun k : Fin 16 => Fresh (F := F) c k) ∗ bigSep Finset.univ fun d : Fin 3 => pay m (c, .inr false) d)
      ⊢ Chunks m c (fun _ => 0) := by
  rw [borrowed, ← bigSep_sep']
  unfold Chunks
  refine bigSep_mono fun k _ => ?_
  dsimp only [Chunk]
  unfold Fresh Unsent
  show (_ : sProp 𝕄) ⊢ _
  iintro ⟨⟨Hz, Hs, ⟨H0, H1, H2, H3⟩, Hr⟩, ⟨G0, G1, G2, G3⟩⟩
  isplitl [Hz]; · iexact Hz
  isplitl [Hs]; · iexact Hs
  isplitl [H0 G0]
  · isplitl [H0] <;> iassumption
  isplitl [H1 G1]
  · isplitl [H1] <;> iassumption
  isplitl [H2 G2]
  · isplitl [H2] <;> iassumption
  isplitl [H3 G3]
  · isplitl [H3] <;> iassumption
  iexact Hr

/-! ## The prologue run -/

/-- What the first chunk computes is its partial product. -/
theorem first_of (c : Dev nD) :
    shapeCast S128x512 (firstPart m c) shapeCasts_S1x128x512_S128x512 = zpart m c 0 := by
  unfold zpart; rw [if_pos rfl]

/-- Nothing is due between the first chunk's message and the second's. -/
theorem skipStart (c : Dev nD) : owed c 4 = owed c 7 := by
  have h (n : ℕ) (h₁ : 4 ≤ n) (h₂ : n < 7) : owed c n = owed c (n + 1) := owed_skip c n fun x => by
    rcases x with ⟨k, i⟩ | ⟨b, d⟩
    · have := k.isLt; fin_cases i <;> simp [time] <;> omega
    · have := d.isLt; cases b <;> simp [time] <;> omega
  rw [h 4 (by decide) (by decide), h 5 (by decide) (by decide), h 6 (by decide) (by decide)]

/-- The beginning of a device's program, up to the first chunk's message. -/
theorem run_prologue [∀ e, Nonempty (Elt F e)] (c : Dev nD) {Q : PUnit → sProp 𝕄} :
    iprop(Known m κ ∗ Meeting c false ∗ (bigSep Finset.univ fun d : Fin 3 => pay m (peer d c, .inr false) d)
        ∗ (DyFree m c 0 ∗ DyFree m c 1) ∗ (WFree m c 0 ∗ WFree m c 1) ∗ anyAt c wqM ∗ (OutFree c 0 ∗ OutFree c 1)
        ∗ (bigSep Finset.univ fun k : Fin 16 => Fresh c k) ∗ Owes c 0)
      ⊢ iprop((Between m c 0 ∗ (WFree m c 0 ∗ WFree m c 1) ∗ atPos ER (meetCell c false) 1 (∅ : Finset (Fin 3)) 0 -∗ Q ⟨⟩)
        -∗ run c (prologue c) Q) := by
  unfold prologue
  simp only [wp_bind]
  iintro ⟨#HK, Hmeet, Hlend, ⟨Hd0, Hd1⟩, ⟨Hw0, Hw1⟩, Hq, ⟨Ho0, Ho1⟩, Hf, HO⟩ Hk
  ihave Hq2 := ((wq_split c).trans (Entails.of_eq (four _))) $$ Hq
  icases Hq2 with ⟨Hq0, Hq1, Hq2, Hq3⟩
  iapply (run_dyStart c 0 0) $$ Hd0
  iintro Hd0
  iapply (run_wStart c 0 0) $$ Hw0
  iintro Hw0
  iapply (run_wStart c 1 1) $$ Hw1
  iintro Hw1
  iapply (run_greet c false (m := m) (κ := κ)) $$ [Hmeet Hlend HO]
  · isplitr; · iexact HK
    isplitl [Hmeet]; · iexact Hmeet
    isplitl [Hlend]; · iexact Hlend
    iexact HO
  iintro ⟨Hgot, Hat, HO⟩
  ihave HC := (chunks_ready c (m := m)) $$ [Hf Hgot]
  · isplitl [Hf]; · iexact Hf
    iexact Hgot
  iapply (run_dyWait c 0 0 3 (by decide)) $$ [Hd0 HO]
  · isplitr; · iapply known_levels; iexact HK
    isplitl [Hd0]; · iexact Hd0
    iexact HO
  iintro ⟨Hd0, Hback, HO⟩
  iapply (run_dyStart c 1 1) $$ Hd1
  iintro Hd1
  iapply (run_load dystM (rDy 0) (fun _ => rfl) squeezes_S1x128x8192_S128x8192 c (dyAt m c 0)) $$ Hd0
  iintro Hd0
  ihave Hd0 := Hback $$ Hd0
  iapply (run_takeTile c 0 0 3 (by decide)) $$ [Hw0 Hq0 HO]
  · isplitr; · iapply known_levels; iexact HK
    isplitl [Hw0]; · iexact Hw0
    isplitl [Hq0]; · iexact Hq0
    iexact HO
  iintro ⟨Hq0, Hw0, HO⟩
  iapply (run_wStart c 2 0) $$ Hw0
  iintro Hw0
  iapply (run_takeTile c 1 1 3 (by decide)) $$ [Hw1 Hq1 HO]
  · isplitr; · iapply known_levels; iexact HK
    isplitl [Hw1]; · iexact Hw1
    isplitl [Hq1]; · iexact Hq1
    iexact HO
  iintro ⟨Hq1, Hw1, HO⟩
  iapply (run_wStart c 3 1) $$ Hw1
  iintro Hw1
  iapply (run_takeTile c 2 0 3 (by decide)) $$ [Hw0 Hq2 HO]
  · isplitr; · iapply known_levels; iexact HK
    isplitl [Hw0]; · iexact Hw0
    isplitl [Hq2]; · iexact Hq2
    iexact HO
  iintro ⟨Hq2, Hw0, HO⟩
  iapply (run_takeTile c 3 1 3 (by decide)) $$ [Hw1 Hq3 HO]
  · isplitr; · iapply known_levels; iexact HK
    isplitl [Hw1]; · iexact Hw1
    isplitl [Hq3]; · iexact Hq3
    iexact HO
  iintro ⟨Hq3, Hw1, HO⟩
  ihave HC2 := (chunks_take c (fun _ => 0) (phase 1 0 0 0 0) 0 0 1 rfl rfl (fun j hj => by
    have hj' : j.val ≠ 0 := fun h' => hj (Fin.ext h')
    unfold phase; split_ifs <;> omega) (m := m)) $$ HC
  icases HC2 with ⟨HC, Hto⟩
  ihave HC := (show Chunk m c 0 0 ⊢ iprop(anyAt c (slot16 zsendM 0) ∗ anyAt c (slot16 sumM 0) ∗ Unsent c 0 0
    ∗ (Unsent c 0 1 ∗ Unsent c 0 2 ∗ Unsent c 0 3 ∗ anyAt c (outRows 0))) from .rfl) $$ HC
  icases HC with ⟨Hz, Hsum, Hu0, Hu⟩
  iapply (run_load_any zsendM (r16 0) (fun _ => rfl) squeezes_S1x128x512_S128x512 c) $$ Hz
  iintro %v Hz
  iapply (run_store zsendM (r16 0) (fun _ => rfl) squeezes_S1x128x512_S128x512 c _) $$ Hz
  iintro Hz
  iapply (run_send c 0 0 3 rfl (m := m) (κ := κ)) $$ [Hu0 Hz HO]
  · isplitr; · iexact HK
    isplitl [Hu0]; · iexact Hu0
    isplitl [Hz]
    · iapply (Entails.of_eq (congrArg (held c (slot16 zsendM 0)) (first_of c (m := m)))); iexact Hz
    iexact HO
  iintro ⟨Hs, HO⟩
  iapply Hk
  isplitr [Hw0 Hw1 Hat]
  · unfold Between
    isplitl [Hd0 Hd1 Hq0 Hq1 Hq2 Hq3]
    · isplitl [Hd0 Hd1]
      · iapply (show iprop(DyFull m c 1 1 ∗ DyFree m c 0) ⊢ DyS m c (min (0 + 1) 16) from .rfl)
        isplitl [Hd1]; · iexact Hd1
        iexact Hd0
      iapply ((Entails.of_eq (four _).symm).trans (wq_join c))
      isplitl [Hq0]; · iexact Hq0
      isplitl [Hq1]; · iexact Hq1
      isplitl [Hq2]; · iexact Hq2
      iexact Hq3
    isplitl [Ho0 Ho1]
    · iapply (show iprop(OutFree c 0 ∗ OutFree c 1) ⊢ OutSlots m c (0 - 5) from .rfl)
      isplitl [Ho0]; · iexact Ho0
      iexact Ho1
    isplitr [HO]
    · iapply Hto
      iapply (show iprop(anyAt c (slot16 sumM 0) ∗ Sent c 0 0 ∗ (Unsent c 0 1 ∗ Unsent c 0 2 ∗ Unsent c 0 3 ∗ anyAt c (outRows 0)))
        ⊢ Chunk m c 0 1 from .rfl)
      isplitl [Hsum]; · iexact Hsum
      isplitl [Hs]; · iexact Hs
      iexact Hu
    iapply (owes_eq c _ _ (skipStart c)); iexact HO
  isplitr [Hat]
  · isplitl [Hw0]; · iexact Hw0
    iexact Hw1
  iexact Hat

end Cert.KernelProof
-- ==== Proof.Whole.lean ====
/-
# The whole program of a device

The last rows are copied out and the peers met once more; with the prologue and the steps this is the program of one
device from what it has at the start to what it has at the end.
-/
module

public import proofs.«01_k».proof.Proof.Prologue

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The buffers and semaphores a device uses alone, not in use. -/
def Idle (c : Dev nD) : sProp 𝕄 :=
  iprop((DyFree m c 0 ∗ DyFree m c 1) ∗ (WFree m c 0 ∗ WFree m c 1) ∗ anyAt c wqM ∗ (OutFree c 0 ∗ OutFree c 1))

/-- What a device has at the start. -/
def Begin (c : Dev nD) : sProp 𝕄 :=
  iprop((Meeting c false ∗ Meeting c true) ∗ (bigSep Finset.univ fun d : Fin 3 => pay m (peer d c, .inr false) d)
    ∗ Idle m c ∗ bigSep Finset.univ fun k : Fin 16 => Fresh c k)

/-- What a device has at the end: every chunk copied out. -/
def End (c : Dev nD) : sProp 𝕄 :=
  iprop((atPos ER (meetCell c false) 1 (∅ : Finset (Fin 3)) 0 ∗ atPos ER (meetCell c true) 1 (∅ : Finset (Fin 3)) 0)
    ∗ Idle m c ∗ Chunks m c (fun _ => 5))

variable {m} {κ : Dev nD × Key → ℕ}

/-- The rows of a chunk copied out are put with the rest of the chunk. -/
theorem rows_done (c : Dev nD) (p p' : Fin 16 → ℕ) (k : Fin 16) (hp : p k = 4) (hp' : p' k = 5) (h : ∀ j, j ≠ k → p' j = p j) :
    iprop(held c (outRows k) (rowsAt m c k) ∗ Chunks m c p) ⊢ Chunks m c p' := by
  iintro ⟨HR, HC⟩
  ihave HC2 := (chunks_take c p p' k 4 5 hp hp' h (m := m)) $$ HC
  icases HC2 with ⟨HC, Hback⟩
  iapply Hback
  unfold Chunk
  icases HC with ⟨Hz, H1, H2, H3, Hrest⟩
  isplitl [Hz]; · iexact Hz
  isplitl [H1]; · iexact H1
  isplitl [H2]; · iexact H2
  isplitl [H3]; · iexact H3
  isplitl [Hrest]; · iexact Hrest
  iexact HR

/-- Nothing is due between the last step and the last barrier. -/
theorem skipLast (c : Dev nD) : owed c 91 = owed c 100 := by
  rw [skipEnd c 91 (by decide) (by decide), skipEnd c 92 (by decide) (by decide), skipEnd c 93 (by decide) (by decide),
    skipEnd c 94 (by decide) (by decide), skipEnd c 95 (by decide) (by decide), skipEnd c 96 (by decide) (by decide),
    skipEnd c 97 (by decide) (by decide), skipEnd c 98 (by decide) (by decide), skipEnd c 99 (by decide) (by decide)]

/-- The end of a device's program: the last copies are waited for, and the last barrier. -/
theorem run_epilogue (c : Dev nD) {Q : PUnit → sProp 𝕄} :
    iprop(Known m κ ∗ Meeting c true ∗ Between m c 21)
      ⊢ iprop(((DyFree m c 0 ∗ DyFree m c 1) ∗ held c wqM (wqAt m c) ∗ (OutFree c 0 ∗ OutFree c 1) ∗ Chunks m c (fun _ => 5)
            ∗ atPos ER (meetCell c true) 1 (∅ : Finset (Fin 3)) 0 ∗ Owes c 103 -∗ Q ⟨⟩)
        -∗ run c (epilogue c) Q) := by
  unfold epilogue Between
  simp only [wp_bind]
  iintro ⟨#HK, Hmeet, ⟨Hdy, Hq⟩, Ho, HC, HO⟩ Hk
  ihave Hdy := (show DyS m c (min (21 + 1) 16) ⊢ iprop(DyFree m c 0 ∗ DyFree m c 1) from .rfl) $$ Hdy
  ihave Ho := (show OutSlots m c (21 - 5) ⊢ iprop(OutFull m c 14 0 ∗ OutFull m c 15 1) from .rfl) $$ Ho
  icases Ho with ⟨Ho0, Ho1⟩
  iapply (run_outWait c 14 0 91 (by decide)) $$ [Ho0 HO]
  · isplitr; · iapply known_levels; iexact HK
    isplitl [Ho0]; · iexact Ho0
    iexact HO
  iintro ⟨HR, Ho0, HO⟩
  ihave HC := (rows_done c (phase 22 20 18 16 14) (phase 22 20 18 16 15) 14 (by decide) (by decide) (by decide) (m := m)) $$ [HR HC]
  · isplitl [HR]; · iexact HR
    iexact HC
  iapply (run_outWait c 15 1 91 (by decide)) $$ [Ho1 HO]
  · isplitr; · iapply known_levels; iexact HK
    isplitl [Ho1]; · iexact Ho1
    iexact HO
  iintro ⟨HR, Ho1, HO⟩
  ihave HC := (rows_done c (phase 22 20 18 16 15) (fun _ => 5) 15 (by decide) (by decide) (by decide) (m := m)) $$ [HR HC]
  · isplitl [HR]; · iexact HR
    iexact HC
  iapply (run_greet c true (m := m) (κ := κ)) $$ [Hmeet HO]
  · isplitr; · iexact HK
    isplitl [Hmeet]; · iexact Hmeet
    isplitr [HO]
    · iapply (Entails.of_eq (three (fun d => pay m (peer d c, .inr true) d)).symm)
      iapply (show iprop(emp) ⊢ iprop(pay m (peer 0 c, .inr true) 0 ∗ pay m (peer 1 c, .inr true) 1 ∗ pay m (peer 2 c, .inr true) 2) from by
        show iprop(emp) ⊢ iprop(emp ∗ emp ∗ emp)
        iintro -
        isplitl; · iempintro
        isplitl <;> iempintro)
      iempintro
    iapply (owes_eq c _ _ (skipLast c)); iexact HO
  iintro ⟨-, Hat, HO⟩
  iapply Hk
  isplitl [Hdy]; · iexact Hdy
  isplitl [Hq]; · iexact Hq
  isplitl [Ho0 Ho1]
  · isplitl [Ho0] <;> iassumption
  isplitl [HC]; · iexact HC
  isplitl [Hat]; · iexact Hat
  iexact HO

/-- The program of a device, from its start to its end. -/
theorem run_program [∀ e, Nonempty (Elt F e)] (c : Dev nD) {Q : PUnit → sProp 𝕄} :
    iprop(Known m κ ∗ Begin m c ∗ Owes c 0) ⊢ iprop((End m c ∗ Owes c 103 -∗ Q ⟨⟩) -∗ run c (program c) Q) := by
  unfold program Begin End Idle
  generalize h21 : (21 : ℕ) = n
  simp only [wp_bind]
  iintro ⟨#HK, ⟨⟨Hm0, Hm1⟩, Hlend, ⟨Hdy, Hw, Hq, Ho⟩, Hf⟩, HO⟩ Hk
  iapply (run_prologue c (m := m) (κ := κ)) $$ [Hm0 Hlend Hdy Hw Hq Ho Hf HO]
  · isplitr; · iexact HK
    isplitl [Hm0]; · iexact Hm0
    isplitl [Hlend]; · iexact Hlend
    isplitl [Hdy]; · iexact Hdy
    isplitl [Hw]; · iexact Hw
    isplitl [Hq]; · iexact Hq
    isplitl [Ho]; · iexact Ho
    isplitl [Hf]; · iexact Hf
    iexact HO
  iintro ⟨HB, Hw, Ha0⟩
  iapply (run_steps c n h21.ge (m := m) (κ := κ)) $$ [HB]
  · isplitr; · iexact HK
    iexact HB
  iintro HB
  ihave HB := (Entails.of_eq (congrArg (Between m c) h21.symm)) $$ HB
  iapply (run_epilogue c (m := m) (κ := κ)) $$ [HB Hm1]
  · isplitr; · iexact HK
    isplitl [Hm1]; · iexact Hm1
    iexact HB
  iintro ⟨Hdy, Hq, Ho, HC, Ha1, HO⟩
  iapply Hk
  isplitr [HO]
  · isplitl [Ha0 Ha1]
    · isplitl [Ha0] <;> iassumption
    isplitr [HC]
    · isplitl [Hdy]; · iexact Hdy
      isplitl [Hw]; · iexact Hw
      isplitl [Hq]; · iapply (any_of_held c wqM (wqAt m c)); iexact Hq
      iexact Ho
    iexact HC
  iexact HO

end Cert.KernelProof
-- ==== Proof.Buffers.lean ====
/-
# The buffers cut into tiles

Each scratch buffer is the tiles the program works on, at any contents; each operand is its two halves of share, one per
slot of its double buffer; the result is its rows, chunk by chunk.
-/
module

public import proofs.«01_k».proof.Proof.Whole
public import Idealize.ShloMosaic.Lib.ViewIndex

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer and its tiles -/

omit [FloatOps F] in
/-- A whole buffer at any contents. -/
theorem any_whole (c : Dev nD) (b : Ref sig .tc) :
    anyAt (F := F) c (Memref.whole b) = iprop(∃ f : Buf (Elt F) ((c.tc : Thread nD τ).loc b), ((c.tc : Thread nD τ).loc b) ↦{fullShare} f) := by
  unfold anyAt
  rw [show (Memref.whole b).view.set = Finset.univ from View.set_whole _]

section Cut

variable {sp : Space} {s : Shape} {e : EltTy} (M : Memref sig .tc sp s e) {T : Type} [Fintype T] [DecidableEq T] (r : T → Rect s)
  (hr : ∀ t a, (r t).stride a = 1) (hd : ∀ t t', t ≠ t' → Disjoint (r t).set (r t').set)
  (hc : (Finset.univ : Finset T).biUnion (fun t => (r t).set) = Finset.univ)

include hd hc in
omit [FloatOps F] in
/-- A memref at any contents is the tiles of a family that divides it, each at any contents. -/
theorem cut [hne : ∀ e, Nonempty (Elt F e)] (c : Dev nD) :
    anyAt (F := F) c M = bigSep Finset.univ fun t => anyAt (F := F) c (M.slice (r t) (hr t)) := by
  have hd' : ∀ t t', t ≠ t' → Disjoint (M.view.slice (r t)).set (M.view.slice (r t')).set :=
    fun t t' h => View.disjoint_slice (hd t t' h)
  have hc' : (Finset.univ : Finset T).biUnion (fun t => (M.view.slice (r t)).set) = M.view.set := by
    ext i; constructor
    · intro hi
      obtain ⟨t, -, ht⟩ := Finset.mem_biUnion.mp hi
      exact View.set_slice_subset _ _ ht
    · intro hi
      obtain ⟨x, -, rfl⟩ := Finset.mem_map.mp hi
      obtain ⟨t, -, ht⟩ := Finset.mem_biUnion.mp (hc.symm ▸ Finset.mem_univ x)
      exact Finset.mem_biUnion.mpr ⟨t, Finset.mem_univ _, by rw [View.set_slice]; exact Finset.mem_map_of_mem _ ht⟩
  refine BI.equiv_iff.mp ⟨?_, ?_⟩
  · unfold anyAt
    show (_ : sProp 𝕄) ⊢ _
    iintro ⟨%f, H⟩
    ihave H2 := (Entails.of_eq (Ring.pointsTo_sub_blocks (fun t => (M.view.slice (r t)).set) hd' M.view.set hc' f)) $$ H
    iapply (show (bigSep Finset.univ fun t => (M.view.loc (c.tc : Thread nD τ) ↦[(M.view.slice (r t)).set]{fullShare} f : sProp 𝕄))
      ⊢ bigSep Finset.univ fun t => iprop(∃ g, M.view.loc (c.tc : Thread nD τ) ↦[(M.view.slice (r t)).set]{fullShare} g) from
        bigSep_mono fun t _ => by
          show (_ : sProp 𝕄) ⊢ _
          iintro H; iexists f; iexact H)
    iexact H2
  · have f₀ : Buf (Elt F) (M.view.loc (c.tc : Thread nD τ)) := fun _ => (hne _).some
    exact (Ring.pointsTo_sub_blocks_join_exists (U := UU) (Lvl := ℕ) (Name := ℕ) (Ix := Unit) (ℓ := M.view.loc (c.tc : Thread nD τ)) (q := fullShare)
      (fun t => (M.view.slice (r t)).set) hd' M.view.set hc' f₀)

end Cut

omit [FloatOps F] in
/-- A tile with its axes of extent one dropped is the tile. -/
theorem any_squeeze {s s' : Shape} {e : EltTy} (c : Dev nD) (M : Memref sig .tc .vmem s e) (r : Rect s) (hr : ∀ a, r.stride a = 1)
    (h : r.shape.Squeezes s') :
    anyAt (F := F) c ((M.slice r hr).squeeze s' h) = anyAt (F := F) c (M.slice r hr) := by
  unfold anyAt
  rw [slot_set]

section Scratch

variable [∀ e, Nonempty (Elt F e)] (c : Dev nD)

omit [FloatOps F] in
/-- A buffer of sixteen tiles. -/
theorem cut16 (M : Memref sig .tc .vmem S16x128x512 .bf16) :
    anyAt (F := F) c M = bigSep Finset.univ fun k => anyAt (F := F) c (slot16 M k) := by
  rw [cut M r16 (fun _ _ => rfl)
    (Ring.lead_disjoint (s := S16x128x512) 0 1 (fun k : Fin 16 => ![k.val, 0, 0]) S1x128x512.size inb16 (fun k => (Nat.one_mul _).symm) rfl)
    (Ring.lead_cover (s := S16x128x512) 0 1 (fun k : Fin 16 => ![k.val, 0, 0]) S1x128x512.size inb16 (fun k => (Nat.one_mul _).symm)
      (fun _ a ha => by fin_cases a <;> first | exact absurd rfl ha | rfl) rfl (fun a ha => by fin_cases a <;> first | exact absurd rfl ha | rfl) rfl)]
  exact congrArg (bigSep Finset.univ) (funext fun k => (any_squeeze c M (r16 k) (fun _ => rfl) squeezes_S1x128x512_S128x512).symm)

omit [FloatOps F] in
/-- A landing buffer: two tiles for each chunk. -/
theorem cut32 (M : Memref sig .tc .vmem S16x2x128x512 .bf16) :
    anyAt (F := F) c M = bigSep Finset.univ fun k => iprop(anyAt (F := F) c (slot32 M k 0) ∗ anyAt (F := F) c (slot32 M k 1)) := by
  have hd : ∀ p p' : Fin 16 × Fin 2, p ≠ p' → Disjoint (r32 p.1 p.2).set (r32 p'.1 p'.2).set := fun p p' h => by
    rw [Finset.disjoint_left]
    intro i hi hi'
    have a0 := (Rect.mem_set_unit.mp hi) 0; have b0 := (Rect.mem_set_unit.mp hi') 0
    have a1 := (Rect.mem_set_unit.mp hi) 1; have b1 := (Rect.mem_set_unit.mp hi') 1
    have a0 : p.1.val ≤ (i 0).val ∧ (i 0).val < p.1.val + 1 := a0
    have b0 : p'.1.val ≤ (i 0).val ∧ (i 0).val < p'.1.val + 1 := b0
    have a1 : p.2.val ≤ (i 1).val ∧ (i 1).val < p.2.val + 1 := a1
    have b1 : p'.2.val ≤ (i 1).val ∧ (i 1).val < p'.2.val + 1 := b1
    exact h (Prod.ext (Fin.ext (by omega)) (Fin.ext (by omega)))
  have hc : (Finset.univ : Finset (Fin 16 × Fin 2)).biUnion (fun p => (r32 p.1 p.2).set) = Finset.univ := by
    ext i
    simp only [Finset.mem_biUnion, Finset.mem_univ, true_and, iff_true]
    have h0 : (i 0).val < 16 := (i 0).isLt
    have h1 : (i 1).val < 2 := (i 1).isLt
    have h2 : (i 2).val < 128 := (i 2).isLt
    have h3 : (i 3).val < 512 := (i 3).isLt
    refine ⟨(⟨(i 0).val, h0⟩, ⟨(i 1).val, h1⟩), Rect.mem_set_unit.mpr fun a => ?_⟩
    fin_cases a
    · show (i 0).val ≤ (i 0).val ∧ (i 0).val < (i 0).val + 1; omega
    · show (i 1).val ≤ (i 1).val ∧ (i 1).val < (i 1).val + 1; omega
    · show 0 ≤ (i 2).val ∧ (i 2).val < 0 + 128; omega
    · show 0 ≤ (i 3).val ∧ (i 3).val < 0 + 512; omega
  rw [cut M (fun p : Fin 16 × Fin 2 => r32 p.1 p.2) (fun _ _ => rfl) hd hc, bigSep_univ_prod]
  refine congrArg (bigSep Finset.univ) (funext fun k => ?_)
  rw [bigSep_univ_two, any_squeeze c M (r32 k 0), any_squeeze c M (r32 k 1)]

/-- The staging buffers: two slots each. -/
theorem dy_cut (M : Memref sig .tc .vmem S2x128x8192 .f32) :
    anyAt (F := F) c M = iprop(anyAt (F := F) c ((M.slice (rDy 0) (fun _ => rfl)).squeeze S128x8192 squeezes_S1x128x8192_S128x8192)
      ∗ anyAt (F := F) c ((M.slice (rDy 1) (fun _ => rfl)).squeeze S128x8192 squeezes_S1x128x8192_S128x8192)) := by
  rw [cut M rDy (fun _ _ => rfl)
    (Ring.lead_disjoint (s := S2x128x8192) 0 1 (fun k : Fin 2 => ![k.val, 0, 0]) S1x128x8192.size inbDy (fun k => (Nat.one_mul _).symm) rfl)
    (Ring.lead_cover (s := S2x128x8192) 0 1 (fun k : Fin 2 => ![k.val, 0, 0]) S1x128x8192.size inbDy (fun k => (Nat.one_mul _).symm)
      (fun _ a ha => by fin_cases a <;> first | exact absurd rfl ha | rfl) rfl (fun a ha => by fin_cases a <;> first | exact absurd rfl ha | rfl) rfl),
    bigSep_univ_two, any_squeeze c M (rDy 0), any_squeeze c M (rDy 1)]

/-- The staging buffer of the right operand is its two slots. -/
theorem w_cut (M : Memref sig .tc .vmem S2x512x2048 .f32) :
    anyAt (F := F) c M = iprop(anyAt (F := F) c ((M.slice (rW 0) (fun _ => rfl)).squeeze S512x2048 squeezes_S1x512x2048_S512x2048)
      ∗ anyAt (F := F) c ((M.slice (rW 1) (fun _ => rfl)).squeeze S512x2048 squeezes_S1x512x2048_S512x2048)) := by
  rw [cut M rW (fun _ _ => rfl)
    (Ring.lead_disjoint (s := S2x512x2048) 0 1 (fun k : Fin 2 => ![k.val, 0, 0]) S1x512x2048.size inbW (fun k => (Nat.one_mul _).symm) rfl)
    (Ring.lead_cover (s := S2x512x2048) 0 1 (fun k : Fin 2 => ![k.val, 0, 0]) S1x512x2048.size inbW (fun k => (Nat.one_mul _).symm)
      (fun _ a ha => by fin_cases a <;> first | exact absurd rfl ha | rfl) rfl (fun a ha => by fin_cases a <;> first | exact absurd rfl ha | rfl) rfl),
    bigSep_univ_two, any_squeeze c M (rW 0), any_squeeze c M (rW 1)]

/-- The staging buffer of the result is its two slots. -/
theorem outst_cut (M : Memref sig .tc .vmem S2x128x2048 .f32) :
    anyAt (F := F) c M = iprop(anyAt (F := F) c ((M.slice (rOut 0) (fun _ => rfl)).squeeze S128x2048 squeezes_S1x128x2048_S128x2048)
      ∗ anyAt (F := F) c ((M.slice (rOut 1) (fun _ => rfl)).squeeze S128x2048 squeezes_S1x128x2048_S128x2048)) := by
  rw [cut M rOut (fun _ _ => rfl)
    (Ring.lead_disjoint (s := S2x128x2048) 0 1 (fun k : Fin 2 => ![k.val, 0, 0]) S1x128x2048.size inbOut (fun k => (Nat.one_mul _).symm) rfl)
    (Ring.lead_cover (s := S2x128x2048) 0 1 (fun k : Fin 2 => ![k.val, 0, 0]) S1x128x2048.size inbOut (fun k => (Nat.one_mul _).symm)
      (fun _ a ha => by fin_cases a <;> first | exact absurd rfl ha | rfl) rfl (fun a ha => by fin_cases a <;> first | exact absurd rfl ha | rfl) rfl),
    bigSep_univ_two, any_squeeze c M (rOut 0), any_squeeze c M (rOut 1)]

/-- The scratch buffers as the program's tiles. -/
def Scratch : sProp 𝕄 :=
  iprop((anyAt (F := F) c (wSlot 0) ∗ anyAt (F := F) c (wSlot 1)) ∗ anyAt (F := F) c wqM
    ∗ (anyAt (F := F) c (dySlot 0) ∗ anyAt (F := F) c (dySlot 1))
    ∗ (bigSep Finset.univ fun k => anyAt (F := F) c (slot16 zsendM k)) ∗ (bigSep Finset.univ fun k => anyAt (F := F) c (slot16 zrecvM k))
    ∗ (bigSep Finset.univ fun k => anyAt (F := F) c (slot16 sumM k))
    ∗ (bigSep Finset.univ fun k => iprop(anyAt (F := F) c (slot32 xrecvM k 0) ∗ anyAt (F := F) c (slot32 xrecvM k 1)))
    ∗ (bigSep Finset.univ fun k => iprop(anyAt (F := F) c (slot32 yrecvM k 0) ∗ anyAt (F := F) c (slot32 yrecvM k 1)))
    ∗ (anyAt (F := F) c (outSlot 0) ∗ anyAt (F := F) c (outSlot 1)))

/-- The scratch that a device is given is the list of its buffers. -/
theorem scratch_eq : (Pipeline.scopedRest (Ix := Unit) (Name := ℕ) (U := UU) (Lvl := ℕ) (Val := Elt F) cfg0.spec c : sProp 𝕄) = Scratch c := by
  rw [scopedRest0_eq]
  simp only [← any_whole]
  unfold Scratch
  rw [← w_cut c wstM, ← dy_cut c dystM, ← cut16 c zsendM, ← cut16 c zrecvM, ← cut16 c sumM, ← cut32 c xrecvM, ← cut32 c yrecvM, ← outst_cut c outstM]

end Scratch

end Cert.KernelProof
-- ==== Proof.Ends.lean ====
/-
# The start and the end of a device's program, buffer by buffer

At the start the buffers, whole, are the tiles the program begins with; at the end the tiles it ends with are the
buffers whole again, and the result's rows are the result.
-/
module

public import proofs.«01_k».proof.Proof.Buffers

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The result's rows -/

/-- Two chunks of the result have no row in common. -/
theorem rows_disjoint (i j : Fin 16) (h : i ≠ j) : Disjoint (rOutRows i).set (rOutRows j).set :=
  Ring.lead_disjoint (s := S2048x2048) 0 128 (fun k : Fin 16 => ![128 * k.val, 0]) S128x2048.size inbOutRows (fun _ => rfl) rfl i j h

/-- The chunks are all of the result. -/
theorem rows_cover : (Finset.univ : Finset (Fin 16)).biUnion (fun k => (rOutRows k).set) = Finset.univ :=
  Ring.lead_cover (s := S2048x2048) 0 128 (fun k : Fin 16 => ![128 * k.val, 0]) S128x2048.size inbOutRows (fun _ => rfl)
    (fun _ a ha => by fin_cases a <;> first | exact absurd rfl ha | rfl) rfl
    (fun a ha => by fin_cases a <;> first | exact absurd rfl ha | rfl) rfl

/-- The result read at the rows of chunk `k`. -/
theorem resultAt_rows (m : (ℓ : Loc nD τ sig) → Buf (Elt F) ℓ) (c : Dev nD) (k : Fin 16) :
    (fun x => resultAt m c ((rOutRows k).emb x)) = rowsAt m c k := by
  funext x
  have h0 : (x 0).val < 128 := (x 0).isLt
  have e0 : ((rOutRows k).emb x 0).val = 128 * k.val + 1 * (x 0).val := rfl
  have e1 : (rOutRows k).emb x 1 = x 1 := Fin.ext (by show 0 + 1 * (x 1).val = (x 1).val; omega)
  unfold resultAt
  have hi : (⟨((rOutRows k).emb x 0).val / 128, Nat.div_lt_of_lt_mul ((rOutRows k).emb x 0).isLt⟩ : Fin 16) = k :=
    Fin.ext (by show ((rOutRows k).emb x 0).val / 128 = k.val; omega)
  have hx : (ix2 ⟨((rOutRows k).emb x 0).val % 128, Nat.mod_lt _ (by decide)⟩ ((rOutRows k).emb x 1) : S128x2048.Idx) = x := by
    refine Eq.trans ?_ (eq_ix2 (n0 := 128) (n1 := 2048) x).symm
    rw [e1]
    congr 1
    exact Fin.ext (by show ((rOutRows k).emb x 0).val % 128 = (x 0).val; omega)
  rw [hi]
  exact congrArg (rowsAt m c k) hx

section Ends

variable [∀ e, Nonempty (Elt F e)] (m : (ℓ : Loc nD τ sig) → Buf (Elt F) ℓ) (c : Dev nD)

omit [FloatOps F] in
/-- The result's buffer is its sixteen chunks. -/
theorem rows_split : anyAt (F := F) c outM = bigSep Finset.univ fun k => anyAt (F := F) c (outRows k) :=
  cut outM rOutRows (fun _ _ => rfl) rows_disjoint rows_cover c

/-- The sixteen chunks, each with its rows, are the result's buffer with the result. -/
theorem rows_join : (bigSep Finset.univ fun k => held c (outRows k) (rowsAt m c k))
    ⊢ (((c.tc : Thread nD τ).loc main_v1) ↦{fullShare} resultAt m c : sProp 𝕄) := by
  refine BIBase.Entails.trans (?_ : _ ⊢ held c outM (resultAt m c)) (Entails.of_eq (owns_whole (c.tc : Thread nD τ) main_v1 fullShare (resultAt m c)))
  refine (show _ ⊢ _ from bigSep_mono fun k _ => ?_).trans
    (owns_of_rects (c.tc : Thread nD τ) outM fullShare rOutRows (fun _ _ => rfl) rows_disjoint rows_cover (resultAt m c))
  exact Entails.of_eq (congrArg (held c (outRows k)) (resultAt_rows m c k).symm)

/-! ## The operands' shares -/

omit [FloatOps F] [∀ e, Nonempty (Elt F e)] in
/-- A buffer is its two halves of the right to it. -/
theorem halves (b : Ref sig .tc) (f : Buf (Elt F) ((c.tc : Thread nD τ).loc b)) :
    (((c.tc : Thread nD τ).loc b) ↦{fullShare} f : sProp 𝕄)
      = iprop((((c.tc : Thread nD τ).loc b) ↦[Finset.univ]{half 0} f) ∗ (((c.tc : Thread nD τ).loc b) ↦[Finset.univ]{half 1} f)) :=
  BI.equiv_iff.mp ⟨(pointsTo_share (PosShare.mem_left_op_right fullShare)).1, (pointsTo_share (PosShare.mem_left_op_right fullShare)).2⟩

/-! ## The landing tiles by their roles -/

/-- The landing tile of chunk `k` no message is written to. -/
def Spare : sProp 𝕄 := bigSep Finset.univ fun k => anyAt (F := F) c (slot32 (firstM k) k 1)

omit [FloatOps F] [∀ e, Nonempty (Elt F e)] in
/-- The landing tiles of a chunk: those its messages are written to and the one left over. -/
theorem landing_roles (k : Fin 16) :
    iprop((anyAt (F := F) c (slot32 xrecvM k 0) ∗ anyAt (F := F) c (slot32 xrecvM k 1)) ∗ (anyAt (F := F) c (slot32 yrecvM k 0) ∗ anyAt (F := F) c (slot32 yrecvM k 1)))
      ⊢ iprop((anyAt (F := F) c (dstOf k 1) ∗ anyAt (F := F) c (dstOf k 2) ∗ anyAt (F := F) c (dstOf k 3)) ∗ anyAt (F := F) c (slot32 (firstM k) k 1)) := by
  show _ ⊢ iprop((anyAt (F := F) c (slot32 (firstM k) k 0) ∗ anyAt (F := F) c (slot32 (secondM k) k 0) ∗ anyAt (F := F) c (slot32 (secondM k) k 1)) ∗ anyAt (F := F) c (slot32 (firstM k) k 1))
  unfold firstM secondM
  by_cases h : xFirst k = true
  · simp only [if_pos h]
    iintro ⟨⟨H0, H1⟩, H2, H3⟩
    isplitr [H1]
    · isplitl [H0]; · iexact H0
      isplitl [H2] <;> iassumption
    iexact H1
  · simp only [if_neg h]
    iintro ⟨⟨H0, H1⟩, H2, H3⟩
    isplitr [H3]
    · isplitl [H2]; · iexact H2
      isplitl [H0] <;> iassumption
    iexact H3

omit [FloatOps F] [∀ e, Nonempty (Elt F e)] in
/-- And back, as the last stage leaves them. -/
theorem roles_landing (k : Fin 16) :
    iprop((anyAt (F := F) c (slot32 xrecvM k 0) ∗ anyAt (F := F) c (slot32 yrecvM k 0) ∗ anyAt (F := F) c (slot32 (secondM k) k 1)) ∗ anyAt (F := F) c (slot32 (firstM k) k 1))
      ⊢ iprop((anyAt (F := F) c (slot32 xrecvM k 0) ∗ anyAt (F := F) c (slot32 xrecvM k 1)) ∗ (anyAt (F := F) c (slot32 yrecvM k 0) ∗ anyAt (F := F) c (slot32 yrecvM k 1))) := by
  unfold firstM secondM
  by_cases h : xFirst k = true
  · simp only [if_pos h]
    iintro ⟨⟨H0, H1, H2⟩, H3⟩
    isplitl [H0 H3]
    · isplitl [H0] <;> iassumption
    isplitl [H1] <;> iassumption
  · simp only [if_neg h]
    iintro ⟨⟨H0, H1, H2⟩, H3⟩
    isplitl [H0 H2]
    · isplitl [H0] <;> iassumption
    isplitl [H1] <;> iassumption

/-! ## The start -/

/-- The counters of the copies within a device, at zero. -/
def LocalSems : sProp 𝕄 :=
  iprop((semVal ((c.tc : Thread nD τ), .dma (sem2 cc0_scratch9 0)) 0 ∗ semVal ((c.tc : Thread nD τ), .dma (sem2 cc0_scratch9 1)) 0)
    ∗ (semVal ((c.tc : Thread nD τ), .dma (sem2 cc0_scratch10 0)) 0 ∗ semVal ((c.tc : Thread nD τ), .dma (sem2 cc0_scratch10 1)) 0)
    ∗ (semVal ((c.tc : Thread nD τ), .dma (sem2 cc0_scratch17 0)) 0 ∗ semVal ((c.tc : Thread nD τ), .dma (sem2 cc0_scratch17 1)) 0))

/-- The operands. -/
def Operands : sProp 𝕄 :=
  iprop((((c.tc : Thread nD τ).loc main_arg0) ↦{fullShare} m (c.tc.loc main_arg0)) ∗ (((c.tc : Thread nD τ).loc main_arg1) ↦{fullShare} m (c.tc.loc main_arg1)))

/-- The tokens of every message. -/
def AllTokens : sProp 𝕄 :=
  bigSep Finset.univ fun k : Fin 16 => iprop(Tokens (F := F) c k 0 ∗ Tokens (F := F) c k 1 ∗ Tokens (F := F) c k 2 ∗ Tokens (F := F) c k 3)

/-- What a device begins with, from its buffers whole. -/
theorem begin_of :
    iprop(Scratch c ∗ LocalSems c ∗ Operands m c ∗ anyAt c outM ∗ (Meeting c false ∗ Meeting c true) ∗ AllTokens c) ⊢ iprop(Begin m c ∗ Spare c) := by
  unfold Scratch LocalSems Operands AllTokens Begin Idle DyFree WFree OutFree Spare Fresh
  rw [rows_split c, ← lend m c, halves c main_arg0, halves c main_arg1]
  simp only [bigSep_sep']
  iintro ⟨⟨⟨Hw0, Hw1⟩, Hq, ⟨Hd0, Hd1⟩, Hzs, Hzr, Hsum, Hx, Hy, ⟨Ho0, Ho1⟩⟩, ⟨⟨Sw0, Sw1⟩, ⟨Sd0, Sd1⟩, ⟨So0, So1⟩⟩, ⟨⟨A0, A1⟩, ⟨B0, B1⟩⟩, Hr, Hm, Ht⟩
  ihave HL := (show iprop(((bigSep Finset.univ fun k => anyAt (F := F) c (slot32 xrecvM k 0)) ∗ (bigSep Finset.univ fun k => anyAt (F := F) c (slot32 xrecvM k 1)))
      ∗ ((bigSep Finset.univ fun k => anyAt (F := F) c (slot32 yrecvM k 0)) ∗ (bigSep Finset.univ fun k => anyAt (F := F) c (slot32 yrecvM k 1))))
      ⊢ iprop(((bigSep Finset.univ fun k => anyAt (F := F) c (dstOf k 1)) ∗ (bigSep Finset.univ fun k => anyAt (F := F) c (dstOf k 2))
        ∗ (bigSep Finset.univ fun k => anyAt (F := F) c (dstOf k 3))) ∗ (bigSep Finset.univ fun k => anyAt (F := F) c (slot32 (firstM k) k 1))) from by
    rw [← bigSep_sep', ← bigSep_sep', ← bigSep_sep', ← bigSep_sep', ← bigSep_sep', ← bigSep_sep']
    exact bigSep_mono fun k _ => landing_roles c k) $$ [Hx Hy]
  · isplitl [Hx] <;> iassumption
  icases HL with ⟨⟨L1, L2, L3⟩, Hsp⟩
  isplitr [Hsp]
  · isplitl [Hm]; · iexact Hm
    isplitl [Hzr L1 L2 L3]
    · isplitl [Hzr]; · iexact Hzr
      isplitl [L1]; · iexact L1
      isplitl [L2] <;> iassumption
    isplitr [Hzs Hsum Ht Hr]
    · isplitl [Hd0 Hd1 Sd0 Sd1 A0 A1]
      · isplitl [Hd0 Sd0 A0]
        · isplitl [Hd0]; · iexact Hd0
          isplitl [Sd0]; · iexact Sd0
          iexact A0
        · isplitl [Hd1]; · iexact Hd1
          isplitl [Sd1]; · iexact Sd1
          iexact A1
      isplitl [Hw0 Hw1 Sw0 Sw1 B0 B1]
      · isplitl [Hw0 Sw0 B0]
        · isplitl [Hw0]; · iexact Hw0
          isplitl [Sw0]; · iexact Sw0
          iexact B0
        · isplitl [Hw1]; · iexact Hw1
          isplitl [Sw1]; · iexact Sw1
          iexact B1
      isplitl [Hq]; · iexact Hq
      isplitl [Ho0 So0]
      · isplitl [Ho0] <;> iassumption
      isplitl [Ho1] <;> iassumption
    isplitl [Hzs]; · iexact Hzs
    isplitl [Hsum]; · iexact Hsum
    isplitl [Ht]; · iexact Ht
    iexact Hr
  iexact Hsp

/-! ## The end -/

/-- The positions of every message's cells after its round. -/
def AllDone : sProp 𝕄 :=
  bigSep Finset.univ fun k : Fin 16 => iprop(Done (F := F) c k 0 ∗ Done (F := F) c k 1 ∗ Done (F := F) c k 2 ∗ Done (F := F) c k 3)

/-- What a device ends with, its buffers whole. -/
theorem end_of :
    iprop(End m c ∗ Spare c)
      ⊢ iprop(Scratch c ∗ LocalSems c ∗ Operands m c ∗ (((c.tc : Thread nD τ).loc main_v1) ↦{fullShare} resultAt m c)
        ∗ (atPos ER (meetCell c false) 1 (∅ : Finset (Fin 3)) 0 ∗ atPos ER (meetCell c true) 1 (∅ : Finset (Fin 3)) 0) ∗ AllDone c) := by
  unfold Scratch LocalSems Operands AllDone End Idle DyFree WFree OutFree Spare Chunks
  dsimp only [Chunk]
  rw [halves c main_arg0, halves c main_arg1]
  simp only [bigSep_sep']
  iintro ⟨⟨Hm, ⟨⟨⟨Hd0, Sd0, A0⟩, ⟨Hd1, Sd1, A1⟩⟩, ⟨⟨Hw0, Sw0, B0⟩, ⟨Hw1, Sw1, B1⟩⟩, Hq, ⟨Ho0, So0⟩, ⟨Ho1, So1⟩⟩,
    ⟨Hzs, Hzr, D0⟩, D1, D2, D3, ⟨Hsum, Hx, Hy, Hs1⟩, Hr⟩, Hsp⟩
  ihave HL := (show iprop(((bigSep Finset.univ fun k => anyAt (F := F) c (slot32 xrecvM k 0)) ∗ (bigSep Finset.univ fun k => anyAt (F := F) c (slot32 yrecvM k 0))
      ∗ (bigSep Finset.univ fun k => anyAt (F := F) c (slot32 (secondM k) k 1))) ∗ (bigSep Finset.univ fun k => anyAt (F := F) c (slot32 (firstM k) k 1)))
      ⊢ iprop(((bigSep Finset.univ fun k => anyAt (F := F) c (slot32 xrecvM k 0)) ∗ (bigSep Finset.univ fun k => anyAt (F := F) c (slot32 xrecvM k 1)))
      ∗ ((bigSep Finset.univ fun k => anyAt (F := F) c (slot32 yrecvM k 0)) ∗ (bigSep Finset.univ fun k => anyAt (F := F) c (slot32 yrecvM k 1)))) from by
    rw [← bigSep_sep', ← bigSep_sep', ← bigSep_sep', ← bigSep_sep', ← bigSep_sep', ← bigSep_sep']
    exact bigSep_mono fun k _ => roles_landing c k) $$ [Hx Hy Hs1 Hsp]
  · isplitr [Hsp]
    · isplitl [Hx]; · iexact Hx
      isplitl [Hy] <;> iassumption
    iexact Hsp
  icases HL with ⟨Hx, Hy⟩
  isplitl [Hw0 Hw1 Hq Hd0 Hd1 Hzs Hzr Hsum Hx Hy Ho0 Ho1]
  · isplitl [Hw0 Hw1]
    · isplitl [Hw0] <;> iassumption
    isplitl [Hq]; · iexact Hq
    isplitl [Hd0 Hd1]
    · isplitl [Hd0] <;> iassumption
    isplitl [Hzs]; · iexact Hzs
    isplitl [Hzr]; · iexact Hzr
    isplitl [Hsum]; · iexact Hsum
    isplitl [Hx]; · iexact Hx
    isplitl [Hy]; · iexact Hy
    isplitl [Ho0] <;> iassumption
  isplitl [Sw0 Sw1 Sd0 Sd1 So0 So1]
  · isplitl [Sw0 Sw1]
    · isplitl [Sw0] <;> iassumption
    isplitl [Sd0 Sd1]
    · isplitl [Sd0] <;> iassumption
    isplitl [So0] <;> iassumption
  isplitl [A0 A1 B0 B1]
  · isplitl [A0 A1]
    · isplitl [A0]; · iexact A0
      iexact A1
    · isplitl [B0]; · iexact B0
      iexact B1
  isplitl [Hr]; · iapply (rows_join m c); iexact Hr
  isplitl [Hm]; · iexact Hm
  isplitl [D0]; · iexact D0
  isplitl [D1]; · iexact D1
  isplitl [D2] <;> iassumption

end Ends

end Cert.KernelProof
-- ==== Proof.Cells.lean ====
/-
# The protocol's cells set up, and taken down again

At the launch every semaphore of the protocol is at zero and becomes a cell at the start of its round; the tokens of
the contributions are dealt to the devices that make them. At the end every cell's round is over and its semaphore is
at zero again.
-/
module

public import proofs.«01_k».proof.Proof.Ends

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores -/

/-- A semaphore of the kernel's own: of a message, the one met at the end, or of a copy within the device. -/
abbrev Own : Type := (Fin 16 × Fin 4 × Bool) ⊕ (Unit ⊕ (Fin 3 × Fin 2))

/-- The semaphore of a copy within the device: of `w`'s tiles, of `dy`'s, of the result's. -/
def localSem : Fin 3 × Fin 2 → Fin sig.nDmaSem
  | (0, s) => sem2 cc0_scratch9 s
  | (1, s) => sem2 cc0_scratch10 s
  | (2, s) => sem2 cc0_scratch17 s

/-- The semaphore of each of the device's own cells. -/
def osem : Own → SemLoc sig
  | .inl p => ksem (.inl p)
  | .inr (.inl _) => ksem (.inr true)
  | .inr (.inr p) => .dma (localSem p)

/-- The number of a semaphore of the kernel's own. -/
def ownNum : Own → ℕ
  | .inl p => keyNum (.inl p)
  | .inr (.inl _) => 1001
  | .inr (.inr (f, s)) => (![0, 2, 164] : Fin 3 → ℕ) f + s.val

/-- The number of such a semaphore. -/
theorem semNum_osem (x : Own) : semNum (osem x) = ownNum x := by
  rcases x with p | _ | p
  · exact semNum_ksem (.inl p)
  · exact semNum_ksem (.inr true)
  · revert p; decide

/-- The numbers of the messages' semaphores. -/
theorem keyNum_range (p : Fin 16 × Fin 4 × Bool) : 4 ≤ keyNum (.inl p) ∧ keyNum (.inl p) < 164 := by revert p; decide

/-- Different cells have different numbers, -/
theorem ownNum_injective : Function.Injective ownNum := by
  have loc : ∀ p : Fin 3 × Fin 2, (ownNum (.inr (.inr p)) < 4 ∨ 164 ≤ ownNum (.inr (.inr p))) ∧ ownNum (.inr (.inr p)) < 166 := by decide
  rintro (p | u | p) (p' | u' | p') h
  · exact congrArg Sum.inl (Sum.inl_injective (keyNum_injective h))
  · have := keyNum_range p; simp only [ownNum] at h; omega
  · have h₁ := keyNum_range p; have h₂ := loc p'; change keyNum (.inl p) = ownNum (.inr (.inr p')) at h; omega
  · have := keyNum_range p'; simp only [ownNum] at h; omega
  · rfl
  · have h₂ := loc p'; change 1001 = ownNum (.inr (.inr p')) at h; omega
  · have h₁ := keyNum_range p'; have h₂ := loc p; change ownNum (.inr (.inr p)) = keyNum (.inl p') at h; omega
  · have h₂ := loc p; change ownNum (.inr (.inr p)) = 1001 at h; omega
  · have inj : ∀ p p' : Fin 3 × Fin 2, ownNum (.inr (.inr p)) = ownNum (.inr (.inr p')) → p = p' := by decide
    rw [inj p p' h]

/-- and so different semaphores. -/
theorem osem_injective : Function.Injective osem := fun x y h =>
  ownNum_injective (by rw [← semNum_osem, ← semNum_osem, h])

/-- They are the kernel's scoped semaphores, pairwise distinct. -/
theorem own_facts : Pipeline.OwnSemFacts cfg0.spec osem :=
  ⟨fun x => by
    rcases x with p | _ | p
    · revert p; decide
    · rfl
    · revert p; decide, osem_injective, fun _ w => w.elim0⟩

/-- Every semaphore a device has, by what it is for. -/
theorem sems_by_role (c : Dev nD) :
    iprop(Pipeline.ownSems0 (Ix := Unit) (Name := ℕ) (U := UU) (Lvl := ℕ) (Val := Elt F) (τ := τ) osem c ∗ unscopedSems0 c)
      = iprop((bigSep Finset.univ fun x : Key => semVal (kcell (c, x)) 0) ∗ LocalSems (F := F) c) := by
  have hu : (unscopedSems0 c : sProp 𝕄) = semVal (kcell (c, .inr false)) 0 := by
    unfold unscopedSems0
    rw [bigSep_eq_bigSepL_of_eq [SemLoc.reg barrierSem] (by decide) (by decide)]
    rfl
  have hb : (bigSep Finset.univ fun b : Bool => (semVal (kcell (c, .inr b)) 0 : sProp 𝕄))
      = iprop(semVal (kcell (c, .inr false)) 0 ∗ semVal (kcell (c, .inr true)) 0) := by
    rw [bigSep_univ_eq_bigSepL [false, true] (by decide) (by decide)]; rfl
  have ho : (Pipeline.ownSems0 (Ix := Unit) (Name := ℕ) (U := UU) (Lvl := ℕ) (Val := Elt F) (τ := τ) osem c : sProp 𝕄)
      = iprop((bigSep Finset.univ fun p : Fin 16 × Fin 4 × Bool => semVal (kcell (c, .inl p)) 0) ∗ semVal (kcell (c, .inr true)) 0 ∗ LocalSems (F := F) c) := by
    unfold Pipeline.ownSems0
    have hl : (bigSep Finset.univ fun p : Fin 3 × Fin 2 => (semVal ((c.tc : Thread nD τ), osem (.inr (.inr p))) 0 : sProp 𝕄)) = LocalSems (F := F) c := by
      rw [bigSep_univ_prod, three]
      unfold LocalSems
      rw [bigSep_univ_two, bigSep_univ_two, bigSep_univ_two]
      rfl
    have h1 : (bigSep Finset.univ fun u : Unit => (semVal ((c.tc : Thread nD τ), osem (.inr (.inl u))) 0 : sProp 𝕄)) = semVal (kcell (c, .inr true)) 0 := by
      rw [Finset.univ_unique, bigSep_singleton]; rfl
    rw [bigSep_univ_sum, bigSep_univ_sum, h1, hl]
    rfl
  have hs : (bigSep Finset.univ fun x : Key => (semVal (kcell (c, x)) 0 : sProp 𝕄))
      = iprop((bigSep Finset.univ fun p : Fin 16 × Fin 4 × Bool => semVal (kcell (c, .inl p)) 0)
        ∗ semVal (kcell (c, .inr false)) 0 ∗ semVal (kcell (c, .inr true)) 0) := by
    rw [← hb]; exact bigSep_univ_sum _
  rw [hu, ho, hs]
  exact BI.equiv_iff.mp ⟨by
    show (_ : sProp 𝕄) ⊢ _
    iintro ⟨⟨H1, H2, H3⟩, H4⟩
    isplitr [H3]
    · isplitl [H1]; · iexact H1
      isplitl [H4] <;> iassumption
    iexact H3, by
    show (_ : sProp 𝕄) ⊢ _
    iintro ⟨⟨H1, H4, H2⟩, H3⟩
    isplitr [H4]
    · isplitl [H1]; · iexact H1
      isplitl [H2] <;> iassumption
    iexact H4⟩

/-! ## The tokens -/

/-- A contribution a device makes: to the semaphores of a message of its own, or to a peer's meeting. -/
abbrev Tok : Type := (Fin 16 × Fin 4 × Bool) ⊕ (Bool × Fin 3)

/-- The semaphore it is made to. -/
def tokKey : Tok → Key
  | .inl p => .inl p
  | .inr (b, _) => .inr b
/-- The number of the contribution. -/
def tokDuty : Tok → Fin 3
  | .inl _ => 0
  | .inr (_, d) => d
/-- The device whose semaphore it is. -/
def toWhom : Tok → Dev nD → Dev nD
  | .inl (_, _, false) => fun c => c
  | .inl (k, i, true) => target k i
  | .inr (_, d) => peer d

/-- A token goes between two devices that give it to each other. -/
theorem toWhom_toWhom (t : Tok) (c : Dev nD) : toWhom t (toWhom t c) = c := by
  rcases t with ⟨k, i, _ | _⟩ | ⟨b, d⟩
  · rfl
  · exact target_target k i c
  · exact peer_peer d c

/-- The contribution, as the semaphore's cell names it. -/
def tokOf (ct : Dev nD × Tok) : GSem nD τ sig × ℕ × Fin 3 := (kcell (ct.1, tokKey ct.2), 0, tokDuty ct.2)

/-- Different tokens belong to different payments. -/
theorem tokOf_injective : Function.Injective tokOf := by
  rintro ⟨c, t⟩ ⟨c', t'⟩ h
  have h₁ := kcell_injective (congrArg Prod.fst h)
  have h₂ : tokDuty t = tokDuty t' := congrArg (fun x => x.2.2) h
  have hc : c = c' := congrArg Prod.fst h₁
  have hk : tokKey t = tokKey t' := congrArg Prod.snd h₁
  have ht : t = t' := by
    rcases t with p | ⟨b, d⟩ <;> rcases t' with p' | ⟨b', d'⟩
    · exact congrArg Sum.inl (Sum.inl_injective hk)
    · exact absurd hk Sum.inl_ne_inr
    · exact absurd hk.symm Sum.inl_ne_inr
    · rw [show b = b' from Sum.inr_injective hk, show d = d' from h₂]
  rw [hc, ht]

/-- The shared cells of all devices. -/
def allCells : Finset (GSem nD τ sig) := Finset.univ.map ⟨kcell, kcell_injective⟩
/-- The tokens of all payments. -/
def allToks : Finset (GSem nD τ sig × ℕ × Fin 3) := Finset.univ.map ⟨tokOf, tokOf_injective⟩

/-- The token of contribution `t` to device `c`'s semaphore. -/
def tokAt (c : Dev nD) (t : Tok) : sProp 𝕄 := dutyTok ER (kcell (c, tokKey t)) 0 (tokDuty t)

/-- The recipients of a contribution, one for each device. -/
def recipient (t : Tok) : Dev nD ≃ Dev nD := ⟨toWhom t, toWhom t, toWhom_toWhom t, toWhom_toWhom t⟩

omit [FloatOps F] in
/-- Something per device and contribution, in either order. -/
theorem exchange {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), ← bigSep_univ_prod (fun p : J × I => Φ p.2 p.1)]
  exact bigSep_univ_equiv (Equiv.prodComm J I) (fun p : I × J => Φ p.1 p.2)

omit [FloatOps F] in
/-- The tokens of every device's semaphores are the tokens of the contributions every device makes. -/
theorem toks_dealt :
    (bigSep Finset.univ fun c : Dev nD => bigSep Finset.univ fun t : Tok => tokAt (F := F) c t)
      = bigSep Finset.univ fun c : Dev nD => bigSep Finset.univ fun t : Tok => tokAt (F := F) (toWhom t c) t := by
  rw [exchange (fun c t => tokAt (F := F) c t), exchange (fun c t => tokAt (F := F) (toWhom t c) t)]
  refine congrArg (bigSep Finset.univ) (funext fun t => ?_)
  exact bigSep_univ_equiv (recipient t) (fun c => tokAt (F := F) c t)

section Setup

variable (m : (ℓ : Loc nD τ sig) → Buf (Elt F) ℓ)

/-- What the initial ghost state deals a device. -/
def Dealt (c : Dev nD) : sProp 𝕄 :=
  iprop((bigSep Finset.univ fun x : Key => roundState ER (sched m) (kcell (c, x)) 0)
    ∗ (bigSep Finset.univ fun x : Key => atPos ER (kcell (c, x)) 0 (∅ : Finset (Fin 3)) 0)
    ∗ (bigSep Finset.univ fun x : Key => reached ER (kcell (c, x)) 0)
    ∗ bigSep Finset.univ fun t : Tok => tokAt (F := F) c t)

/-- The ghost state minted at the launch, dealt to the devices. -/
theorem fund_cells : BI.own (ER (initOf allCells allToks)) ⊢ (|==> bigSep Finset.univ (Dealt m) : sProp 𝕄) := by
  have hX (Φ : GSem nD τ sig → sProp 𝕄) : bigSep allCells Φ = bigSep Finset.univ fun c : Dev nD => bigSep Finset.univ fun x : Key => Φ (kcell (c, x)) := by
    unfold allCells; rw [bigSep_map, bigSep_univ_prod]; rfl
  have hT : bigSep allToks (fun x => (dutyTok ER x.1 x.2.1 x.2.2 : sProp 𝕄)) = bigSep Finset.univ fun c : Dev nD => bigSep Finset.univ fun t : Tok => tokAt (F := F) c t := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Dealt; simp only [bigSep_sep']
  isplitl [Hst']; · iexact Hst'
  isplitl [Hat']; · iexact Hat'
  isplitl [Hr'] <;> iassumption

/-- What the devices know of the cells alone. -/
def Cells (κ : Dev nD × Key → ℕ) : sProp 𝕄 :=
  iprop(bigSep Finset.univ (fun ck : Dev nD × Key => cellInv ER (sched m) (κ ck) (kcell ck))
    ∗ bigSep Finset.univ (fun ck : Dev nD × Key => reached ER (kcell ck) 0))

/-- Knowing the cells can be shared. -/
instance cells_persistent (κ : Dev nD × Key → ℕ) : BI.Persistent (Cells m κ) := by unfold Cells; infer_instance

/-- What a device has for itself: its places, the tokens of its contributions, the counters of its own copies. -/
def Mine (c : Dev nD) : sProp 𝕄 :=
  iprop((bigSep Finset.univ fun x : Key => atPos ER (kcell (c, x)) 0 (∅ : Finset (Fin 3)) 0)
    ∗ (bigSep Finset.univ fun t : Tok => tokAt (F := F) (toWhom t c) t) ∗ LocalSems (F := F) c)

/-- One device's cells are set up. -/
theorem setup_one (c : Dev nD) :
    iprop(Pipeline.ownSems0 (Ix := Unit) (Name := ℕ) (U := UU) (Lvl := ℕ) (Val := Elt F) (τ := τ) osem c ∗ unscopedSems0 c ∗ Dealt m c)
      ⊢ |={Set.univ}=> iprop((bigSep Finset.univ fun x : Key => iprop(∃ κ : ℕ, cellInv ER (sched m) κ (kcell (c, x))))
          ∗ (bigSep Finset.univ fun x : Key => reached ER (kcell (c, x)) 0)
          ∗ ((bigSep Finset.univ fun x : Key => atPos ER (kcell (c, x)) 0 (∅ : Finset (Fin 3)) 0) ∗ LocalSems (F := F) c)
          ∗ bigSep Finset.univ fun t : Tok => tokAt (F := F) c t) := by
  unfold Dealt
  iintro ⟨Hos, Hus, Hst, Hat, Hr, Htok⟩
  ihave Hv := (Entails.of_eq (sems_by_role (F := F) c)) $$ [Hos Hus]
  · isplitl [Hos] <;> iassumption
  icases Hv with ⟨Hv, Hl⟩
  imod (show iprop((bigSep Finset.univ fun x : Key => semVal (kcell (c, x)) 0) ∗ bigSep Finset.univ fun x : Key => roundState ER (sched m) (kcell (c, x)) 0)
      ⊢ (|={Set.univ}=> bigSep Finset.univ fun x : Key => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hr]; · iexact Hr
  isplitr [Htok]
  · isplitl [Hat] <;> iassumption
  iexact Htok

omit [FloatOps F] in
/-- Something everyone knows is there for each. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's cells are set up, their names agreed and the tokens dealt. -/
theorem setup_all :
    (bigSep Finset.univ fun c : Dev nD => iprop(Pipeline.ownSems0 (Ix := Unit) (Name := ℕ) (U := UU) (Lvl := ℕ) (Val := Elt F) (τ := τ) osem c ∗ unscopedSems0 c ∗ Dealt m c) : sProp 𝕄)
      ⊢ |={Set.univ}=> bigSep Finset.univ fun c : Dev nD => iprop((∃ κ, Cells m κ) ∗ Mine (F := F) c) := by
  refine BIBase.Entails.trans ((bigSep_mono fun c _ => setup_one m c).trans (bigSep_fupd _ _)) (BI.fupd_mono ?_)
  simp only [bigSep_sep']
  rw [toks_dealt, ← bigSep_univ_prod (fun ck : Dev nD × Key => iprop(∃ κ : ℕ, cellInv ER (sched m) κ (kcell ck))),
    ← bigSep_univ_prod (fun ck : Dev nD × Key => (reached ER (kcell ck) 0 : sProp 𝕄))]
  iintro ⟨HI, #HR, ⟨Hat, Hl⟩, Htok⟩
  ihave HK := (BI.bigSep_exists_pi Finset.univ (fun (ck : Dev nD × Key) (κ : ℕ) => (cellInv ER (sched m) κ (kcell ck) : sProp 𝕄))) $$ HI
  icases HK with ⟨%κ, #HI⟩
  isplitr
  · iapply (show Cells m κ ⊢ bigSep Finset.univ (fun _ : Dev nD => iprop(∃ κ, Cells m κ)) from
      (BI.bigSep_of_persistent Finset.univ (Cells m κ)).trans (bigSep_mono fun c _ => show (_ : sProp 𝕄) ⊢ _ from by iintro H; iexists κ; iexact H))
    unfold Cells
    isplitl; · iexact HI
    iexact HR
  · unfold Mine
    simp only [bigSep_sep']
    isplitl [Hat]; · iexact Hat
    isplitl [Htok] <;> iassumption

/-- The cells of a device are taken down, their rounds over. -/
theorem close_all (κ : Dev nD × Key → ℕ) (c : Dev nD) :
    iprop(Known m κ ∗ bigSep Finset.univ fun x : Key => atPos ER (kcell (c, x)) 1 (∅ : Finset (Fin 3)) 0)
      ⊢ |={Set.univ}=> (bigSep Finset.univ fun x : Key => semVal (kcell (c, x)) 0 : sProp 𝕄) := by
  refine BIBase.Entails.trans (with_known (R := Known m κ) (Ψ := fun x : Key => iprop(|={Set.univ}=> semVal (kcell (c, x)) 0)) fun x _ => ?_) (bigSep_fupd _ _)
  refine (sep_mono_left (known_cell (c, x))).trans ?_
  exact Rounds.cell_close ER (sched m) (Set.mem_univ (κ (c, x))) (fun h => h) (R := 0 + 1) (duties_later m (kcell (c, x)))

end Setup

/-! ## By message and by meeting -/

omit [FloatOps F] in
/-- Something per semaphore, gathered by message and by meeting. -/
theorem by_message (A : Key → sProp 𝕄) :
    bigSep Finset.univ A = iprop((bigSep Finset.univ fun p : Fin 16 × Fin 4 => iprop(A (.inl (p.1, p.2, false)) ∗ A (.inl (p.1, p.2, true))))
      ∗ A (.inr false) ∗ A (.inr true)) := by
  have two (Φ : Bool → sProp 𝕄) : bigSep Finset.univ Φ = iprop(Φ false ∗ Φ true) := by
    rw [bigSep_univ_eq_bigSepL [false, true] (by decide) (by decide)]; rfl
  rw [bigSep_univ_sum, two, bigSep_univ_prod]
  have h : (bigSep Finset.univ fun k : Fin 16 => bigSep Finset.univ fun q : Fin 4 × Bool => A (.inl (k, q)))
      = bigSep Finset.univ fun p : Fin 16 × Fin 4 => iprop(A (.inl (p.1, p.2, false)) ∗ A (.inl (p.1, p.2, true))) := by
    rw [bigSep_univ_prod (fun p : Fin 16 × Fin 4 => iprop(A (.inl (p.1, p.2, false)) ∗ A (.inl (p.1, p.2, true))))]
    refine congrArg (bigSep Finset.univ) (funext fun k => ?_)
    rw [bigSep_univ_prod]
    exact congrArg (bigSep Finset.univ) (funext fun i => two _)
  rw [h]
  rfl

end Cert.KernelProof
-- ==== Proof.Fed.lean ====
/-
# The kernel's body is the composition of the stages

Once a device has been told its number the body is one straight line of operations. On each of the eight devices it is
the line the stages compose.
-/
module

public import proofs.«01_k».proof.Proof.Stages

@[expose] public section

noncomputable section

namespace Cert.KernelProof

open Cert.KernelIdeal Cert.KernelIdeal.Gen
open Idealize.ShloMosaic Idealize.ShloMosaic.TcCoe Idealize.SL.Sem

variable {F : FTy → Type} [FloatOps F]

/-- What a program does after asking for the device's number and being told `c`. -/
def fed {α : Type} (c : Dev nD) : Code F α → Code F α
  | .op .deviceId k => k c
  | p => p

/-- The program of one device at a grid point. -/
abbrev body (t : Fin cfg0.N) : Code F PUnit := bodyAt0 (F := F) t

set_option maxRecDepth 65536 in
/-- On every device the body is the device's program: the device's number decides which device each message goes to,
which rows of the right operand are read and which quarter of the output each sum becomes. -/
theorem fed_body (c : Dev nD) (t : Fin cfg0.N) : fed (F := F) c (body t) = program (F := F) c := by
  have h0 : fed (F := F) 0 (body t) = program (F := F) 0 := by chain_rfl
  have h1 : fed (F := F) 1 (body t) = program (F := F) 1 := by chain_rfl
  have h2 : fed (F := F) 2 (body t) = program (F := F) 2 := by chain_rfl
  have h3 : fed (F := F) 3 (body t) = program (F := F) 3 := by chain_rfl
  have h4 : fed (F := F) 4 (body t) = program (F := F) 4 := by chain_rfl
  have h5 : fed (F := F) 5 (body t) = program (F := F) 5 := by chain_rfl
  have h6 : fed (F := F) 6 (body t) = program (F := F) 6 := by chain_rfl
  have h7 : fed (F := F) 7 (body t) = program (F := F) 7 := by chain_rfl
  match c with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

/-- The body asks for the device's number first, and runs on it. -/
theorem body_eq (t : Fin cfg0.N) : body (F := F) t = .op .deviceId fun c => fed c (body t) := by
  chain_rfl

end Cert.KernelProof
-- ==== Proof.Launch.lean ====
/-
# The launch

Every device starts with what the launch deals it, runs its program and ends with its result; from every launch the
kernel ends, with every device's operands as they were, its result computed and every semaphore at zero.
-/
module

public import proofs.«01_k».proof.Proof.Cells
public import proofs.«01_k».proof.Proof.Fed
public import Idealize.ShloMosaic.Lib.Pipeline.CollectiveSegs

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The credits of the launch -/

/-- What a device owes at the start is everything. -/
theorem owed_zero (d : Dev nD) : owed d 0 = ∑ x : Debt, debt d x := by
  unfold owed
  exact Finset.sum_congr (Finset.filter_true_of_mem fun _ _ => Nat.zero_le _) fun _ _ => rfl

/-- What the peers owe a device, as credits it may wait on. -/
def Credits (c : Dev nD) : sProp 𝕄 :=
  iprop((bigSep Finset.univ fun p : Fin 16 × Fin 4 => cred (tallyAt (recvCell c p.1 p.2) () credit))
    ∗ cred (tallyAt (meetCell c false) () 3) ∗ cred (tallyAt (meetCell c true) () 3))

/-- The credit of one message. -/
theorem credit_message (c : Dev nD) (k : Fin 16) (i : Fin 4) :
    (Pipeline.launchCred (fun d => debt d (.inl (k, i))) c : sProp 𝕄) ⊢ cred (tallyAt (recvCell c k i) () credit) :=
  Pipeline.launchCred_tallyAt (.dma (recvSem k i)) (target k i) (target k i) (target_target k i) (target_target k i) () credit c

/-- The credit of one greeting. -/
theorem credit_greeting (c : Dev nD) (b : Bool) (d : Fin 3) :
    (Pipeline.launchCred (fun d' => debt d' (.inr (b, d))) c : sProp 𝕄) ⊢ cred (tallyAt (meetCell c b) () 1) := by
  rw [← kcell_meet]
  exact Pipeline.launchCred_tallyAt (ksem (.inr b)) (peer d) (peer d) (peer_peer d) (peer_peer d) () 1 c

/-- Three greetings' credits are one of three units. -/
theorem three_greetings (c : Dev nD) (b : Bool) :
    (bigSep Finset.univ fun _ : Fin 3 => (cred (tallyAt (meetCell c b) () 1) : sProp 𝕄)) ⊢ cred (tallyAt (meetCell c b) () 3) := by
  have h : (tallyAt (meetCell c b) () 3 : CellTallies nD τ sig Unit)
      = tallyAt (meetCell c b) () 1 + (tallyAt (meetCell c b) () 1 + tallyAt (meetCell c b) () 1) := by
    rw [tallyAt_add, tallyAt_add]
  rw [three, h]
  exact (sep_mono_right (cred_add _ _).2).trans (cred_add _ _).2

/-- The credits the launch gives a device. -/
theorem credits (c : Dev nD) : (Pipeline.launchCred (fun d => owed d 0) c : sProp 𝕄) ⊢ Credits c := by
  rw [show (fun d : Dev nD => owed d 0) = fun d => ∑ x : Debt, debt d x from funext owed_zero, Pipeline.launchCred_sum]
  have hs : (bigSep Finset.univ fun x : Debt => (Pipeline.launchCred (fun d => debt d x) c : sProp 𝕄))
      = iprop((bigSep Finset.univ fun p : Fin 16 × Fin 4 => Pipeline.launchCred (fun d => debt d (.inl p)) c)
        ∗ bigSep Finset.univ fun q : Bool × Fin 3 => Pipeline.launchCred (fun d => debt d (.inr q)) c) := bigSep_univ_sum _
  have hb (Φ : Bool → sProp 𝕄) : bigSep Finset.univ Φ = iprop(Φ false ∗ Φ true) := by
    rw [bigSep_univ_eq_bigSepL [false, true] (by decide) (by decide)]; rfl
  rw [hs, bigSep_univ_prod (fun q : Bool × Fin 3 => (Pipeline.launchCred (fun d => debt d (.inr q)) c : sProp 𝕄)), hb]
  unfold Credits
  refine BIClass.sep_mono (show (_ : sProp 𝕄) ⊢ _ from bigSep_mono fun p _ => credit_message c p.1 p.2) (BIClass.sep_mono ?_ ?_)
  · exact (show (_ : sProp 𝕄) ⊢ _ from bigSep_mono fun d _ => credit_greeting c false d).trans (three_greetings c false)
  · exact (show (_ : sProp 𝕄) ⊢ _ from bigSep_mono fun d _ => credit_greeting c true d).trans (three_greetings c true)

/-! ## What a device starts with -/

/-- Its places, tokens and credits, by message and by meeting. -/
theorem ready (c : Dev nD) :
    iprop(Mine (F := F) c ∗ Credits c) ⊢ iprop(((Meeting c false ∗ Meeting c true) ∗ AllTokens c) ∗ LocalSems (F := F) c) := by
  have ht : (bigSep Finset.univ fun t : Tok => tokAt (F := F) (toWhom t c) t)
      = iprop((bigSep Finset.univ fun p : Fin 16 × Fin 4 × Bool => tokAt (F := F) (toWhom (.inl p) c) (.inl p))
        ∗ bigSep Finset.univ fun q : Bool × Fin 3 => tokAt (F := F) (toWhom (.inr q) c) (.inr q)) := bigSep_univ_sum _
  have hb (Φ : Bool → sProp 𝕄) : bigSep Finset.univ Φ = iprop(Φ false ∗ Φ true) := by
    rw [bigSep_univ_eq_bigSepL [false, true] (by decide) (by decide)]; rfl
  have hp : (bigSep Finset.univ fun p : Fin 16 × Fin 4 × Bool => tokAt (F := F) (toWhom (.inl p) c) (.inl p))
      = bigSep Finset.univ fun p : Fin 16 × Fin 4 => iprop(tokAt (F := F) c (.inl (p.1, p.2, false)) ∗ tokAt (F := F) (target p.1 p.2 c) (.inl (p.1, p.2, true))) := by
    rw [bigSep_univ_prod, bigSep_univ_prod (fun p : Fin 16 × Fin 4 => iprop(tokAt (F := F) c (.inl (p.1, p.2, false)) ∗ tokAt (F := F) (target p.1 p.2 c) (.inl (p.1, p.2, true))))]
    refine congrArg (bigSep Finset.univ) (funext fun k => ?_)
    rw [bigSep_univ_prod]
    exact congrArg (bigSep Finset.univ) (funext fun i => hb _)
  have ha : AllTokens (F := F) c = bigSep Finset.univ fun p : Fin 16 × Fin 4 => Tokens (F := F) c p.1 p.2 := (by_chunk fun k i => Tokens (F := F) c k i).symm
  have hg (b : Bool) : (bigSep Finset.univ fun d : Fin 3 => tokAt (F := F) (toWhom (.inr (b, d)) c) (.inr (b, d)))
      = bigSep Finset.univ fun d : Fin 3 => dutyTok ER (meetCell (peer d c) b) 0 d := by
    refine congrArg (bigSep Finset.univ) (funext fun d => ?_)
    rw [← kcell_meet]; rfl
  unfold Mine Credits Meeting
  rw [ht, hp, by_message (fun x : Key => atPos ER (kcell (c, x)) 0 (∅ : Finset (Fin 3)) 0), ha,
    bigSep_univ_prod (fun q : Bool × Fin 3 => tokAt (F := F) (toWhom (.inr q) c) (.inr q)), hb, hg false, hg true]
  unfold Tokens
  simp only [bigSep_sep']
  iintro ⟨⟨⟨⟨As, Ar⟩, A0, A1⟩, ⟨⟨Ts, Tr⟩, G0, G1⟩, Hl⟩, Cr, C0, C1⟩
  isplitr [Hl]
  · isplitl [A0 A1 G0 G1 C0 C1]
    · isplitl [A0 G0 C0]
      · isplitl [G0]; · iexact G0
        isplitl [A0]; · iexact A0
        iexact C0
      · isplitl [G1]; · iexact G1
        isplitl [A1]; · iexact A1
        iexact C1
    isplitl [Ts]; · iexact Ts
    isplitl [Tr]; · iexact Tr
    isplitl [As]; · iexact As
    isplitl [Ar]; · iexact Ar
    iexact Cr
  iexact Hl

/-- The places a device ends at. -/
theorem places_done (c : Dev nD) :
    iprop((atPos ER (meetCell c false) 1 (∅ : Finset (Fin 3)) 0 ∗ atPos ER (meetCell c true) 1 (∅ : Finset (Fin 3)) 0) ∗ AllDone c)
      ⊢ (bigSep Finset.univ fun x : Key => atPos ER (kcell (c, x)) 1 (∅ : Finset (Fin 3)) 0 : sProp 𝕄) := by
  have ha : AllDone (F := F) c = bigSep Finset.univ fun p : Fin 16 × Fin 4 => Done (F := F) c p.1 p.2 := (by_chunk fun k i => Done (F := F) c k i).symm
  rw [by_message (fun x : Key => atPos ER (kcell (c, x)) 1 (∅ : Finset (Fin 3)) 0), ha]
  unfold Done
  iintro ⟨Hm, Hd⟩
  isplitl [Hd]; · iexact Hd
  iexact Hm

section Run

variable (m : (ℓ : Loc nD τ sig) → Buf (Elt F) ℓ) (ρ : Dev nD → PrngReg)

/-- What a device starts with, but for its buffers within the kernel. -/
def Start (c : Dev nD) : sProp 𝕄 :=
  iprop((∃ κ, Known m κ) ∗ Mine (F := F) c ∗ Credits c ∗ Operands m c ∗ anyAt c outM)

/-- What it ends with. -/
def Finish (c : Dev nD) : sProp 𝕄 :=
  iprop(unscopedSems0 c ∗ Operands m c ∗ (((c.tc : Thread nD τ).loc main_v1) ↦{fullShare} resultAt m c))

/-- The launch's pieces: nothing passes through windows; the state before the program and the state after it. -/
def dats (_ : Fin 1) (c : Dev nD) : Pipeline.Dat τ (Elt F) Unit ℕ UU ℕ cfg0 c where
  A w := w.elim0
  after w := w.elim0
  Φ t := match t with
    | ⟨0, _⟩ => iprop(Start m c ∗ Pipeline.scopedRest cfg0.spec c)
    | ⟨_ + 1, _⟩ => iprop(Finish m c ∗ Pipeline.ownSems0 osem c ∗ Pipeline.scopedRest cfg0.spec c)
  q _ := fullShare
  owed t := match t with
    | ⟨0, _⟩ => owed c 0
    | ⟨_ + 1, _⟩ => 0

variable [∀ e, Nonempty (Elt F e)]

/-- A device runs its program from its start to its finish. -/
theorem run_body (c : Dev nD) :
    iprop(Start m c ∗ Pipeline.scopedRest cfg0.spec c ∗ Owes c 0)
      ⊢ run c (program c) (fun _ => iprop((Finish m c ∗ Pipeline.ownSems0 osem c ∗ Pipeline.scopedRest cfg0.spec c) ∗ Owes c 103)) := by
  rw [scratch_eq]
  unfold Start
  iintro ⟨⟨⟨%κ, #HK⟩, HM, HC, HA, Ho⟩, HS, HO⟩
  ihave HR := (ready c) $$ [HM HC]
  · isplitl [HM] <;> iassumption
  icases HR with ⟨⟨HM, HT⟩, HL⟩
  ihave HB := (begin_of m c) $$ [HS HL HA Ho HM HT]
  · isplitl [HS]; · iexact HS
    isplitl [HL]; · iexact HL
    isplitl [HA]; · iexact HA
    isplitl [Ho]; · iexact Ho
    isplitl [HM] <;> iassumption
  icases HB with ⟨HB, Hsp⟩
  iapply (wp_fupd frame (wpE (defs₀ (F := F)) 𝒱₀ (c.tc : Thread nD τ) none) Set.univ)
  iapply (run_program c (m := m) (κ := κ)) $$ [HB HO]
  · isplitr; · iexact HK
    isplitl [HB] <;> iassumption
  iintro ⟨HE, HO⟩
  ihave HF := (end_of m c) $$ [HE Hsp]
  · isplitl [HE] <;> iassumption
  icases HF with ⟨HS, HL, HA, Hr, Hm, HD⟩
  ihave HP := (places_done c) $$ [Hm HD]
  · isplitl [Hm] <;> iassumption
  imod (close_all m κ c) $$ [HP] with HV
  · isplitr; · iexact HK
    iexact HP
  ihave HV := (Entails.of_eq (sems_by_role (F := F) c).symm) $$ [HV HL]
  · isplitl [HV] <;> iassumption
  icases HV with ⟨Hos, Hus⟩
  imodintro
  unfold Finish
  isplitr [HO]
  · isplitl [Hus HA Hr]
    · isplitl [Hus]; · iexact Hus
      isplitl [HA] <;> iassumption
    isplitl [Hos] <;> iassumption
  iexact HO

end Run

end Cert.KernelProof
-- ==== Proof.Main.lean ====
/-
# The run of the kernel

From any memory with every semaphore at zero the kernel ends, on every schedule: with every device's operands
unchanged, its result as computed, and every semaphore at zero.
-/
module

public import proofs.«01_k».proof.Proof.Launch

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

omit [∀ e, Nonempty (Elt F e)] in
/-- A program that asks for the device's number first runs as what it does on the answer. -/
theorem run_asked (c : Dev nD) (p p' : Code F PUnit) (h : p = .op .deviceId fun d => fed d p) (h' : fed c p = p') (Q : PUnit → sProp 𝕄) :
    run c p' Q ⊢ run c p Q := by
  have e : run c (.op .deviceId fun d => fed d p) Q = run c (fed c p) Q := wp_deviceId ..
  rw [← h']
  exact Entails.of_eq (e.symm.trans (congrArg (fun x => run c x Q) h.symm))

omit [FloatOps F] [∀ e, Nonempty (Elt F e)] in
/-- The kernel stages no operand of its own accord. -/
theorem no_window (Φ : Fin cfg0.W → sProp 𝕄) : bigSep Finset.univ Φ = iprop(emp) := by
  rw [show (Finset.univ : Finset (Fin cfg0.W)) = ∅ from rfl]; rfl

/-- What the launch asks of a program that runs as the device's. -/
theorem body_met (c : Dev nD) (p : Code F PUnit) (hp : ∀ Q : PUnit → sProp 𝕄, run c (program c) Q ⊢ run c p Q) :
    iprop((Start m c ∗ Pipeline.scopedRest cfg0.spec c) ∗ (dats (F := F) m 0 c).owesAt () t0_0.castSucc ∗ emp)
      ⊢ run c p (fun _ => iprop((Finish m c ∗ Pipeline.ownSems0 osem c ∗ Pipeline.scopedRest cfg0.spec c) ∗ (dats (F := F) m 0 c).owesAt () t0_0.succ ∗ emp)) := by
  iintro ⟨⟨Hs, Hr⟩, Ho, -⟩
  iapply (hp _)
  unfold Pipeline.Dat.owesAt Pipeline.owesWithin
  rw [show (dats (F := F) m 0 c).owed t0_0.castSucc = owed c 0 from rfl, show (dats (F := F) m 0 c).owed t0_0.succ = owed c 103 from (owed_end c).symm]
  icases Ho with ⟨%W, -, HO⟩
  iapply ((run_body m c).trans (wp_mono frame (wpE (defs₀ (F := F)) 𝒱₀ (c.tc : Thread nD τ) none) Set.univ (fun _ => ?_))) $$ [Hs Hr HO]
  · unfold Owes
    iintro ⟨H, %W', HO⟩
    isplitl [H]; · iexact H
    isplitl
    · iexists W'
      isplitr; · ipureintro; exact fun _ _ => Or.inl trivial
      iexact HO
    iempintro
  · isplitl [Hs]; · iexact Hs
    isplitl [Hr]; · iexact Hr
    unfold Owes
    iexists W; iexact HO

set_option maxRecDepth 65536 in
omit [∀ e, Nonempty (Elt F e)] in
/-- The body the launch calls. -/
theorem called (t : Fin cfg0.N) : defs₀ (F := F) .tc cfg0.body (cfg0.bodyArgs t (cfg0.slots t)) = body t := rfl

/-- What the launch asks of the body. -/
theorem body_obligation (c : Dev nD) : Pipeline.BodyObligation (dats (F := F) m 0 c) (defs₀ (F := F)) 𝒱₀ () Set.univ := fun t => by
  rw [no_window, no_window, called, fin_N0 t]
  generalize hp : body (F := F) t0_0 = p
  have h : ∀ Q : PUnit → sProp 𝕄, run c (program c) Q ⊢ run c p Q := by
    subst hp; exact run_asked c _ _ (body_eq t0_0) (fed_body c t0_0)
  exact body_met m c p h

/-! ## The launch's conditions -/

/-- So no share of one is asked for. -/
theorem share_eq (c : Dev nD) (w : Fin cfg0.W) : (dats (F := F) m 0 c).share w = fullShare := w.elim0

/-- Nothing is waited for on behalf of such an operand. -/
theorem waits (c : Dev nD) : (levAts L lv : sProp 𝕄) ⊢ Pipeline.cellsWaits cfgs (dats (F := F) m) () 0 c :=
  Pipeline.cellsWaits_intro cfgs (dats (F := F) m) () 0 c fun w _ _ => w.elim0

/-- What is known and held when a device starts. -/
theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ ((∃ κ, Cells m κ) ∗ Mine (F := F) c))
      ⊢ |={Set.univ}=> iprop(Start m c ∗ emp) := by
  rw [Pipeline.unscopedRestP_none, unscopedRest0_eq]
  unfold Start Operands
  iintro ⟨⟨H0, H1, H2⟩, Hlev, Hcr, -, ⟨%κ, HC⟩, HM⟩
  ihave Hcr := (credits (F := F) c) $$ Hcr
  imodintro
  isplitl
  · isplitl [HC Hlev]
    · iexists κ
      unfold Known Cells
      icases HC with ⟨Hi, Hr⟩
      isplitl [Hi]; · iexact Hi
      isplitl [Hr] <;> iassumption
    isplitl [HM]; · iexact HM
    isplitl [Hcr]; · iexact Hcr
    isplitl [H0 H1]
    · isplitl [H0] <;> iassumption
    rw [any_whole c main_v1]
    iexists _; iexact H2
  · iempintro

/-- What the body begins with, out of what the launch hands over. -/
theorem start_in (c : Dev nD) :
    iprop(Start m c ∗ Pipeline.prefHeld Pipeline.Prefetch.none c (fun _ => fullShare.right) (fun k => k.elim0) ∗ Pipeline.scopedRest cfg0.spec c)
      ⊢ (dats (F := F) m 0 c).Φ 0 := by
  show _ ⊢ iprop(Start m c ∗ Pipeline.scopedRest cfg0.spec c)
  iintro ⟨Hs, -, Hr⟩
  isplitl [Hs] <;> iassumption

/-- What the launch takes back, out of what the body ends with. -/
theorem finish_out (c : Dev nD) :
    (dats (F := F) m 0 c).Φ (Fin.last cfg0.N) ⊢ iprop(Finish m c ∗ Pipeline.ownSems0 osem c ∗ Pipeline.scopedRest cfg0.spec c) := .rfl

/-- What a device's memory holds at the end. -/
def Final (c : Dev nD) (s : MemSt nD τ sig (Elt F)) : Prop :=
  s.mem ((c.tc : Thread nD τ).loc main_arg0) = m (c.tc.loc main_arg0) ∧ s.mem ((c.tc : Thread nD τ).loc main_arg1) = m (c.tc.loc main_arg1)
    ∧ s.mem ((c.tc : Thread nD τ).loc main_v1) = resultAt m c

/-- What a device ends with says what its arguments and its result hold, and that its semaphores are at zero. -/
theorem finish_read (c : Dev nD) (s' : Phys nD τ sig (Elt F)) :
    iprop(Finish m c ∗ emp ∗ SI s')
      ⊢ |={Set.univ}=> iprop(⌜Final m c s'.mem ∧ ∀ sm : SemLoc sig, sm.isScoped .tc = false → s'.mem.sem ((c.tc : Thread nD τ), sm) = 0⌝ ∗ SI s') := by
  unfold Finish Operands
  iintro ⟨⟨Hu, ⟨H0, H1⟩, H2⟩, -, HSI⟩
  imod (Pipeline.unscopedSems0_read (X := unscopedSems0 c) (c := c) fupd_intro s') $$ [Hu HSI] with ⟨%hu, HSI⟩
  · isplitl [Hu] <;> iassumption
  ihave H := (pointsTo_read_all Finset.univ (fun b : Fin 3 => (c.tc : Thread nD τ).loc ((![main_arg0, main_arg1, main_v1] : Fin 3 → Ref sig .tc) b))
    (fun b => match b with
      | 0 => m (c.tc.loc main_arg0)
      | 1 => m (c.tc.loc main_arg1)
      | 2 => resultAt m c) s') $$ [H0 H1 H2 HSI]
  · isplitr [HSI]
    · rw [three]
      isplitl [H0]; · iexact H0
      isplitl [H1]; · iexact H1
      iexact H2
    iexact HSI
  icases H with ⟨%hm, HSI⟩
  imodintro
  isplitr
  · ipureintro
    exact ⟨⟨hm 0 (Finset.mem_univ _), hm 1 (Finset.mem_univ _), hm 2 (Finset.mem_univ _)⟩, hu⟩
  iexact HSI

/-- The initial ghost state. -/
def u₀ : UU :=
  (initOf (Pipeline.cells cfgs cellOf_inj) (Pipeline.launchToks cfgs cellOf_inj), (initOf allCells allToks, 1))

/-- The initial state deals every device its cells and tokens. -/
theorem ghost_start :
    (ownU u₀ : sProp 𝕄) ⊢ |={Set.univ}=> iprop(BI.own (EP (initOf (Pipeline.cells cfgs cellOf_inj) (Pipeline.launchToks cfgs cellOf_inj))) ∗ bigSep Finset.univ (Dealt m)) := by
  unfold u₀
  iintro Hu
  ihave H := (ownU_pair _ _) $$ Hu
  icases H with ⟨HP, HX⟩
  ihave H := (own_pair_emb embR (initOf allCells allToks) (1 : Counters)) $$ HX
  icases H with ⟨HX, -⟩
  imod (show BI.own (((Emb.inl : Emb UB (UB × Counters)).trans embR) (initOf allCells allToks)) ⊢ (|==> bigSep Finset.univ (Dealt m) : sProp 𝕄) from fund_cells m) $$ HX with HG
  imodintro
  isplitl [HP] <;> iassumption

set_option maxRecDepth 8000 in
/-- The kernel, run from any memory with every semaphore at zero. -/
theorem run_main : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats (F := F) m) () cellOf_inj (0 : Fin 1)
    winFacts0.to₀ own_facts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := fun d => owed d 0) (howed₀ := fun _ => rfl) (howedN := fun _ => rfl)
    (L := L) (lv := lv) (hL := L_of_ne) (hwaits := waits m)
    (G := Dealt m) (G' := fun c => iprop((∃ κ, Cells m κ) ∗ Mine (F := F) c)) (u₀ := u₀)
    (hu₀ := ghost_start m)
    (hglob := setup_all m)
    (hA := fun _ w => w.elim0) (hpf := fun _ k => k.elim0)
    (X := Start m) (Y := Finish m) (Z := fun _ => iprop(emp))
    (hX := start_intro m ρ) (hin := start_in m) (hout := finish_out m)
    (QY := fun c s => Final m c s ∧ ∀ sm : SemLoc sig, sm.isScoped .tc = false → s.sem ((c.tc : Thread nD τ), sm) = 0)
    (hY := finish_read m)
    (hQ := fun _ h hs => ⟨fun c => (h c).2.2.1, sem_eq_zero hs fun c => (h c).2.2.2⟩)

end Cert.KernelProof
-- ==== Proof.Frames.lean ====
/-
# The frames

Each of the three programs runs to its end, leaves its arguments as they were and every semaphore at
zero.  The kernel's run is proved once for any float values, so the two programs that hold the kernel's
text take it at the machine's values and at the ideal ones.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Main

@[expose] public section

noncomputable section

namespace Cert.KernelProof

open Idealize.ShloMosaic Idealize.ShloMosaic.TcCoe Idealize.SL.Sem

/-- The kernel at the ideal values. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

set_option maxRecDepth 65536 in
/-- The kernel at the machine's values: the same text, run the same way. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The reference declares no semaphore. -/
theorem frame_reference : Cert.quiescent_ReferenceIdeal := fun m ρ _ =>
  (θ_run _ _ _).mono (fun _ h => ⟨fun c => ⟨(h c).2.1, (h c).2.2⟩, funext fun g => by obtain ⟨_, s⟩ := g; fin_cases s⟩)
    (Cert.ReferenceIdeal.Value.run m ρ)

end Cert.KernelProof
-- ==== Proof.Product.lean ====
/-
# The kernel's products, read at an entry

At the ideal values a change of format changes nothing and a product of matrices is a sum over the
contracted coordinate, so every stage of the kernel is read at one entry: the blocks it loads, the
transposed right operand, the partial product of a row chunk, and the sum of the two halves of the
contraction.
-/
module

public import proofs.«01_k».proof.Proof.Contents
public import Idealize.ShloMosaic.Lib.Pointwise

@[expose] public section

noncomputable section

namespace Cert.KernelProof

open Cert.KernelIdeal Cert.KernelIdeal.Gen
open Idealize.ShloMosaic Idealize.ShloMosaic.TcCoe Idealize.SL.Sem

variable (m : (ℓ : Loc nD τ sig) → Buf (Elt Ideal) ℓ)

/-- Device `c`'s block of the left operand. -/
abbrev lhsOf (c : Dev nD) : S2048x8192.Idx → EReal := m (c.tc.loc main_arg0)
/-- Device `c`'s block of the right operand. -/
abbrev rhsOf (c : Dev nD) : S2048x8192.Idx → EReal := m (c.tc.loc main_arg1)

/-- Row `a` of row chunk `k`. -/
abbrev rowOf (k : Fin 16) (a : Fin 128) : Fin 2048 := ⟨128 * k.val + a.val, by omega⟩
/-- Column `b` of column quarter `q`. -/
abbrev colOf (q : Fin 4) (b : Fin 512) : Fin 2048 := ⟨512 * q.val + b.val, by omega⟩

/-- An entry of a chunk of the left operand. -/
theorem dyAt_apply (c : Dev nD) (k : Fin 16) (a : Fin 128) (b : Fin 8192) :
    dyAt m c k (ix2 a b) = lhsOf m c (ix2 (rowOf k a) b) := by
  show lhsOf m c _ = _
  refine congrArg (lhsOf m c) (funext fun i => Fin.ext ?_)
  match i with
  | ⟨0, _⟩ => show 128 * k.val + 1 * a.val = 128 * k.val + a.val; omega
  | ⟨1, _⟩ => show 0 + 1 * b.val = b.val; omega

/-- An entry of a tile of the right operand. -/
theorem wAt_apply (c : Dev nD) (i : Fin 4) (a : Fin 512) (b : Fin 2048) :
    wAt m c i (ix2 a b) = rhsOf m c (ix2 (colOf (quarter c) a) ⟨2048 * i.val + b.val, by omega⟩) := by
  show rhsOf m c _ = _
  refine congrArg (rhsOf m c) (funext fun x => Fin.ext ?_)
  match x with
  | ⟨0, _⟩ => show 512 * (quarter c).val + 1 * a.val = 512 * (quarter c).val + a.val; omega
  | ⟨1, _⟩ => show 2048 * i.val + 1 * b.val = 2048 * i.val + b.val; omega

/-- A transposed tile has its rows and columns exchanged. -/
theorem wTrans_apply (c : Dev nD) (i : Fin 4) (a : Fin 512) (b : Fin 2048) :
    wTrans m c i (ix2 b a) = wAt m c i (ix2 a b) := by
  unfold wTrans
  pointwise [k0_pay3, k0_pay2, liftW]

/-- The transposed right operand: its column is a row of the right operand, its row the contracted coordinate. -/
theorem wqAt_apply (c : Dev nD) (a : Fin 512) (b : Fin 8192) :
    wqAt m c (ix2 b a) = rhsOf m c (ix2 (colOf (quarter c) a) b) := by
  show wTrans m c ⟨b.val / 2048, _⟩ (ValueIdx.ix2 ⟨b.val % 2048, _⟩ a) = _
  rw [← ix2_eq_valueIdx, wTrans_apply, wAt_apply]
  refine congrArg (fun t => rhsOf m c (ix2 _ t)) (Fin.ext ?_)
  show 2048 * (b.val / 2048) + b.val % 2048 = b.val
  omega

/-- One product over the whole half of the contraction. -/
theorem product_apply (x : Vec Ideal S128x8192 .f32) (w : Vec Ideal S8192x512 .bf16) (a : Fin 128) (b : Fin 512) :
    drop16 (k0_pay13 (liftDy x) w) (ix2 a b) = ∑ t : Fin 8192, x (ix2 a t) * w (ix2 t b) := by
  pointwise [k0_pay13, liftDy, drop16]

/-- Four products over a quarter of the half each, added up. -/
theorem products_apply (x : Vec Ideal S128x8192 .f32) (w : Fin 4 → Vec Ideal S512x2048 .f32) (a : Fin 128) (b : Fin 512) :
    drop16 (k0_pay12 (k0_pay1 (liftDy x)) (k0_pay7 (k0_pay1 (liftDy x)) (k0_pay4 (liftDy x) (liftW (w 0))) (liftW (w 1)))
        (k0_pay8 (liftW (w 2))) (liftW (w 3))) (ix2 a b)
      = ∑ i : Fin 4, ∑ t : Fin 2048, x (ix2 a ⟨i.val * 2048 + t.val, by omega⟩) * w i (ix2 b t) := by
  rw [Fin.sum_univ_four]
  pointwise [k0_pay12, k0_pay10, k0_pay8, k0_pay7, k0_pay5, k0_pay4, k0_pay2, k0_pay1, liftDy, liftW, drop16]

/-- The entry of the product over device `c`'s half of the contraction. -/
def halfSum (c : Dev nD) (r n : Fin 2048) : EReal := ∑ t : Fin 8192, lhsOf m c (ix2 r t) * rhsOf m c (ix2 n t)

/-- The partial product of a chunk, on every chunk alike. -/
theorem zpart_apply (c : Dev nD) (k : Fin 16) (a : Fin 128) (b : Fin 512) :
    zpart m c k (ix2 a b) = halfSum m c (rowOf k a) (colOf (quarter c) b) := by
  unfold zpart halfSum
  by_cases hk : k = 0
  · subst hk
    rw [if_pos rfl]
    unfold firstPart
    refine (products_apply (dyAt m c 0) (wAt m c) a b).trans ?_
    rw [Fin.sum_univ_tiles 4 2048 rfl]
    refine Finset.sum_congr rfl fun i _ => Finset.sum_congr rfl fun t _ => ?_
    rw [dyAt_apply, wAt_apply]
    refine congrArg (fun u => _ * rhsOf m c (ix2 _ u)) (Fin.ext ?_)
    show 2048 * i.val + t.val = i.val * 2048 + t.val
    omega
  · rw [if_neg hk]
    refine (product_apply _ _ a b).trans (Finset.sum_congr rfl fun t _ => ?_)
    rw [dyAt_apply, wqAt_apply]

/-- The two devices that share a quarter differ along `z`. -/
theorem quarter_zPeer (c : Dev nD) : quarter (zPeer c) = quarter c := by revert c; decide
/-- The device of quarter `j` computes quarter `j`. -/
theorem quarter_corner (c : Dev nD) (j : Fin 4) : quarter (corner c j) = j := by revert c j; decide

/-- The two halves added. -/
theorem zsum_apply (c : Dev nD) (k : Fin 16) (a : Fin 128) (b : Fin 512) :
    zsum m c k (ix2 a b) = halfSum m c (rowOf k a) (colOf (quarter c) b) + halfSum m (zPeer c) (rowOf k a) (colOf (quarter c) b) := by
  rw [← zpart_apply, show halfSum m (zPeer c) (rowOf k a) (colOf (quarter c) b) = zpart m (zPeer c) k (ix2 a b) from by
    rw [zpart_apply, quarter_zPeer]]
  unfold zsum
  pointwise [k0_pay91, lift16]

/-- An entry of the result: both halves of the contraction, from the two devices that compute its column. -/
theorem resultAt_apply (c : Dev nD) (r n : Fin 2048) :
    resultAt m c (ix2 r n)
      = halfSum m (corner c ⟨n.val / 512, by omega⟩) r n + halfSum m (zPeer (corner c ⟨n.val / 512, by omega⟩)) r n := by
  show zsum m (corner c ⟨n.val / 512, _⟩) ⟨r.val / 128, _⟩ (ValueIdx.ix2 ⟨r.val % 128, _⟩ ⟨n.val % 512, _⟩) = _
  rw [← ix2_eq_valueIdx, zsum_apply, quarter_corner]
  have hr : rowOf ⟨r.val / 128, by omega⟩ ⟨r.val % 128, by omega⟩ = r := Fin.ext (by show 128 * (r.val / 128) + r.val % 128 = r.val; omega)
  have hn : colOf ⟨n.val / 512, by omega⟩ ⟨n.val % 512, by omega⟩ = n := Fin.ext (by show 512 * (n.val / 512) + n.val % 512 = n.val; omega)
  rw [hr, hn]

end Cert.KernelProof
-- ==== Proof.Value.lean ====
/-
# The kernel computes the product

From operands cut in two along the contraction, each device holding the half its last mesh coordinate
names, every device ends with the whole product of the left operand with the transpose of the right
one: the sum over the whole contraction is the sum of its two halves, in either order.
-/
module

public import proofs.«01_k».proof.Proof.Frames
public import proofs.«01_k».proof.Proof.Product

@[expose] public section

noncomputable section

namespace Cert.KernelProof

open Cert.KernelIdeal Cert.KernelIdeal.Gen
open Idealize.ShloMosaic Idealize.ShloMosaic.TcCoe Idealize.SL.Sem

/-- The product of the whole operands at one entry. -/
def entry (X W : (⟨2, ![2048, 16384]⟩ : Shape).Idx → EReal) (r n : Fin 2048) : EReal :=
  ∑ t : Fin 16384, X (ix2 r t) * W (ix2 n t)

/-- The part of an entry over half `h` of the contraction. -/
def part (X W : (⟨2, ![2048, 16384]⟩ : Shape).Idx → EReal) (h : Fin 2) (r n : Fin 2048) : EReal :=
  ∑ t : Fin 8192, X (ix2 r ⟨h.val * 8192 + t.val, by omega⟩) * W (ix2 n ⟨h.val * 8192 + t.val, by omega⟩)

/-- An entry is the sum of its two parts. -/
theorem entry_eq (X W : (⟨2, ![2048, 16384]⟩ : Shape).Idx → EReal) (r n : Fin 2048) :
    entry X W r n = part X W 0 r n + part X W 1 r n := by
  unfold entry part
  rw [Fin.sum_univ_tiles 2 8192 rfl, Fin.sum_univ_two]

/-- The half of the contraction that device `c` holds. -/
def side (c : Dev nD) : Fin 2 := ⟨c.val % 2, Nat.mod_lt _ (by decide)⟩

/-- The two devices that exchange their partial products hold the two halves. -/
theorem sides (X W : (⟨2, ![2048, 16384]⟩ : Shape).Idx → EReal) (c : Dev nD) (r n : Fin 2048) :
    part X W (side c) r n + part X W (side (zPeer c)) r n = entry X W r n := by
  rw [entry_eq]
  have h : (side c = 0 ∧ side (zPeer c) = 1) ∨ (side c = 1 ∧ side (zPeer c) = 0) := by revert c; decide
  rcases h with ⟨h0, h1⟩ | ⟨h1, h0⟩ <;> rw [h0, h1]
  exact add_comm _ _

/-- An entry of the block of an operand that a device holds. -/
theorem block_entry (c : Dev nD) (X : (⟨2, ![2048, 16384]⟩ : Shape).Idx → EReal) (r : Fin 2048) (t : Fin 8192) :
    (Layout.blockN ⟨2, ![2048, 8192]⟩ ⟨2, ![2048, 16384]⟩ (Layout.meshBlock [2, 2, 2] ![[], [2]] c) X : (⟨2, ![2048, 8192]⟩ : Shape).Idx → EReal) (ix2 r t)
      = X (ix2 r ⟨(side c).val * 8192 + t.val, by have := (side c).isLt; omega⟩) := by
  have h1 : ((Layout.meshBlock [2, 2, 2] ![[], [2]] c) 1).val = (side c).val := by revert c; decide
  have h0 : ((Layout.meshBlock [2, 2, 2] ![[], [2]] c) 0).val = 0 := by revert c; decide
  rw [Layout.blockN_apply]
  refine congrArg X (funext fun i => Fin.ext ?_)
  match i with
  | ⟨0, _⟩ => exact (Layout.TilesN.idx_val _ _ _ _).trans ((congrArg (fun v => v * 2048 + r.val) h0).trans (by rw [Nat.zero_mul, Nat.zero_add]; rfl))
  | ⟨1, _⟩ => exact (Layout.TilesN.idx_val _ _ _ _).trans (congrArg (fun v => v * 8192 + t.val) h1)

/-- The reference's result, read at an entry. -/
theorem reference_apply (X W : FVec Ideal Cert.ReferenceIdeal.S2048x16384 .f32) (r n : Fin 2048) :
    (Host.dotGeneral (F := Ideal) (φ₁ := .f32) (φ₂ := .f32) Cert.ReferenceIdeal.dot_S2048x16384_S16384x2048_S2048x2048_1_0_0_1_n_n none
      X (transpose Cert.ReferenceIdeal.S16384x2048 [1, 0] W
        Cert.ReferenceIdeal.Facts₀.transposes_S2048x16384_S16384x2048_1_0) : FVec Ideal Cert.ReferenceIdeal.S2048x2048 .f32) (ix2 r n)
      = entry X W r n := by
  unfold entry
  pointwise

section Meets

variable (m : (ℓ : Loc nD τ sig) → Buf (Elt Ideal) ℓ) (X W : (⟨2, ![2048, 16384]⟩ : Shape).Idx → EReal)
variable (hX : ∀ c, lhsOf m c = Layout.blockN ⟨2, ![2048, 8192]⟩ ⟨2, ![2048, 16384]⟩ (Layout.meshBlock [2, 2, 2] ![[], [2]] c) X)
variable (hW : ∀ c, rhsOf m c = Layout.blockN ⟨2, ![2048, 8192]⟩ ⟨2, ![2048, 16384]⟩ (Layout.meshBlock [2, 2, 2] ![[], [2]] c) W)
include hX hW

/-- What a device adds up is its half of the entry. -/
theorem halfSum_eq (c : Dev nD) (r n : Fin 2048) : halfSum m c r n = part X W (side c) r n := by
  unfold halfSum part
  refine Finset.sum_congr rfl fun t _ => ?_
  rw [hX c, hW c, block_entry, block_entry]

/-- Every entry of every device's result is the entry of the product. -/
theorem result_entry (c : Dev nD) (r n : Fin 2048) : resultAt m c (ix2 r n) = entry X W r n := by
  rw [resultAt_apply, halfSum_eq m X W hX hW, halfSum_eq m X W hX hW, sides]

end Meets

/-- The kernel's result on every device is the reference's. -/
theorem algebraic : Cert.algebraic_KernelIdeal_ReferenceIdeal := by
  intro m g m' g' _ h
  refine ⟨_, ?_, (θ_run _ _ _).mono (fun _ h => ⟨(h 0).1, (h 0).2.1, (h 0).2.2⟩) (Cert.ReferenceIdeal.Value.run m' g')⟩
  refine (θ_run _ _ _).mono (fun _ hr c => ⟨(hr.1 c).2.2.trans ?_, (hr.1 c).1, (hr.1 c).2.1⟩) (run_main (F := Ideal) m g)
  funext x
  rw [eq_ix2 x]
  exact (result_entry m _ _ (fun c => (h c).1) (fun c => (h c).2) c _ _).trans (reference_apply _ _ _ _).symm

end Cert.KernelProof
-- ==== Proof.lean ====
/-
# The certificate

The claims about the kernel, its idealization and the reference, put together from the modules of
this directory: `Frames` has the three runs, `Value` the equation of the results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Main
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims: the three frames, the (empty) idealization, and the value on every device. -/
theorem claim : Cert.Claim := ⟨Cert.Kernel.Gen.facts, Cert.KernelIdeal.Gen.facts, Cert.ReferenceIdeal.Gen.facts,
  Cert.KernelProof.frame_kernel, Cert.KernelProof.frame_ideal, Cert.KernelProof.frame_reference, trivial,
  Cert.KernelProof.algebraic⟩

end Cert.Proof

end
